-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_v6) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x768x7168 : Shape := ⟨3, ![4, 768, 7168]⟩
abbrev S7168x20480 : Shape := ⟨2, ![7168, 20480]⟩
abbrev S20480 : Shape := ⟨1, ![20480]⟩
abbrev S3072x7168 : Shape := ⟨2, ![3072, 7168]⟩
abbrev S3072x1 : Shape := ⟨2, ![3072, 1]⟩
abbrev S256x7168 : Shape := ⟨2, ![256, 7168]⟩
abbrev S256x1 : Shape := ⟨2, ![256, 1]⟩
abbrev S256 : Shape := ⟨1, ![256]⟩
abbrev S1x256 : Shape := ⟨2, ![1, 256]⟩
abbrev S256x256 : Shape := ⟨2, ![256, 256]⟩
abbrev S1x20480 : Shape := ⟨2, ![1, 20480]⟩
abbrev S3072x10240 : Shape := ⟨2, ![3072, 10240]⟩
abbrev S512x7168 : Shape := ⟨2, ![512, 7168]⟩
abbrev S512x1 : Shape := ⟨2, ![512, 1]⟩
abbrev S7168x256 : Shape := ⟨2, ![7168, 256]⟩
abbrev S512x10240 : Shape := ⟨2, ![512, 10240]⟩
abbrev S512x256 : Shape := ⟨2, ![512, 256]⟩
abbrev S512 : Shape := ⟨1, ![512]⟩
abbrev S4x768x1 : Shape := ⟨3, ![4, 768, 1]⟩
abbrev S4x768x10240 : Shape := ⟨3, ![4, 768, 10240]⟩

abbrev nBuf : Space → Nat
  | .hbm => 13
  | .vmem => 24
  | .smem => 0
  | _ => 0

abbrev bufTy : (tb : Table) → Fin (tcTables nBuf tb) → BufTy
  | .hbm, ⟨0, _⟩ => ⟨S4x768x7168, .bf16⟩
  | .hbm, ⟨1, _⟩ => ⟨S7168x20480, .fp8e4m3⟩
  | .hbm, ⟨2, _⟩ => ⟨S20480, .f32⟩
  | .hbm, ⟨3, _⟩ => ⟨S3072x7168, .bf16⟩
  | .hbm, ⟨4, _⟩ => ⟨S3072x7168, .fp8e4m3⟩
  | .hbm, ⟨5, _⟩ => ⟨S3072x1, .f32⟩
  | .hbm, ⟨6, _⟩ => ⟨S1x20480, .f32⟩
  | .hbm, ⟨7, _⟩ => ⟨S3072x10240, .fp8e4m3⟩
  | .hbm, ⟨8, _⟩ => ⟨S3072x1, .f32⟩
  | .hbm, ⟨9, _⟩ => ⟨S4x768x1, .f32⟩
  | .hbm, ⟨10, _⟩ => ⟨S4x768x10240, .fp8e4m3⟩
  | .hbm, ⟨11, _⟩ => ⟨S4x768x7168, .fp8e4m3⟩
  | .hbm, ⟨12, _⟩ => ⟨S4x768x1, .f32⟩
  | .local _ .vmem, ⟨0, _⟩ => ⟨S256x7168, .bf16⟩
  | .local _ .vmem, ⟨1, _⟩ => ⟨S256x7168, .bf16⟩
  | .local _ .vmem, ⟨2, _⟩ => ⟨S256x7168, .fp8e4m3⟩
  | .local _ .vmem, ⟨3, _⟩ => ⟨S256x7168, .fp8e4m3⟩
  | .local _ .vmem, ⟨4, _⟩ => ⟨S256x1, .f32⟩
  | .local _ .vmem, ⟨5, _⟩ => ⟨S256x1, .f32⟩
  | .local _ .vmem, ⟨6, _⟩ => ⟨S512x7168, .fp8e4m3⟩
  | .local _ .vmem, ⟨7, _⟩ => ⟨S512x7168, .fp8e4m3⟩
  | .local _ .vmem, ⟨8, _⟩ => ⟨S512x1, .f32⟩
  | .local _ .vmem, ⟨9, _⟩ => ⟨S512x1, .f32⟩
  | .local _ .vmem, ⟨10, _⟩ => ⟨S7168x256, .fp8e4m3⟩
  | .local _ .vmem, ⟨11, _⟩ => ⟨S7168x256, .fp8e4m3⟩
  | .local _ .vmem, ⟨12, _⟩ => ⟨S7168x256, .fp8e4m3⟩
  | .local _ .vmem, ⟨13, _⟩ => ⟨S7168x256, .fp8e4m3⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S512x10240, .fp8e4m3⟩
  | .local _ .vmem, ⟨19, _⟩ => ⟨S512x10240, .fp8e4m3⟩
  | .local _ .vmem, ⟨20, _⟩ => ⟨S512x1, .f32⟩
  | .local _ .vmem, ⟨21, _⟩ => ⟨S512x1, .f32⟩
  | .local _ .vmem, ⟨22, _⟩ => ⟨S512x10240, .f32⟩
  | .local _ .vmem, ⟨23, _⟩ => ⟨S512x1, .f32⟩
  | _, _ => ⟨S4x768x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_scratch0 : Ref sig .tc := ⟨.vmem, 22, rfl⟩
abbrev cc1_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x7168 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![6, 40], ![false, false]⟩

def k1_mult1 (i : grid1.Coords) : BitVec 32 :=
  let arg1 : BitVec 32 := BitVec.ofNat 32 (i 1).val
  let c256_i32 : BitVec 32 := 256#32
  let v23 : BitVec 32 := Scalar.muli arg1 c256_i32
  v23
def k1_off1 (i : grid1.Coords) : Fin 2 → Nat :=
  let c0_12 : Index := 0#32
  let arg1 : BitVec 32 := BitVec.ofNat 32 (i 1).val
  let c256_i32 : BitVec 32 := 256#32
  let v23 : BitVec 32 := Scalar.muli arg1 c256_i32
  let v24 : BitVec 32 := v23
  let v25 : Index := Scalar.indexCast v24
  ![0, v25.toNat]
def k1_cond3 (i : grid1.Coords) : BitVec 1 :=
  let arg1 : BitVec 32 := BitVec.ofNat 32 (i 1).val
  let c39_i32 : BitVec 32 := 39#32
  let v38 : BitVec 1 := Scalar.cmpi .eq arg1 c39_i32
  let v39 : BitVec 32 := Scalar.extui v38
  let c0_i32_17 : BitVec 32 := 0#32
  let v40 : BitVec 1 := Scalar.cmpi .ne v39 c0_i32_17
  v40

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi arg1 c40_i32
  let c0_i32 : BitVec 32 := 0#32
  let c0_i32_0 : BitVec 32 := 0#32
  ![c0_i32.toNat, v0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi arg1 c40_i32
  let c0_i32 : BitVec 32 := 0#32
  let c0_i32_0 : BitVec 32 := 0#32
  ![c0_i32.toNat, v0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x7168 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S7168x256 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S7168x256 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S512x10240 .fp8e4m3 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S512x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== ReferenceIdeal.lean ====
abbrev S4x768x7168 : Shape := ⟨3, ![4, 768, 7168]⟩
abbrev S7168x20480 : Shape := ⟨2, ![7168, 20480]⟩
abbrev S20480 : Shape := ⟨1, ![20480]⟩
abbrev S3072x7168 : Shape := ⟨2, ![3072, 7168]⟩
abbrev S1x20480 : Shape := ⟨2, ![1, 20480]⟩
abbrev S3072x1 : Shape := ⟨2, ![3072, 1]⟩
abbrev S3072x10240 : Shape := ⟨2, ![3072, 10240]⟩
abbrev S3072 : Shape := ⟨1, ![3072]⟩
abbrev S1x252 : Shape := ⟨2, ![1, 252]⟩
abbrev S3072x252 : Shape := ⟨2, ![3072, 252]⟩
abbrev S3072x20480 : Shape := ⟨2, ![3072, 20480]⟩
abbrev S4x768x1 : Shape := ⟨3, ![4, 768, 1]⟩
abbrev S4x768x10240 : Shape := ⟨3, ![4, 768, 10240]⟩

abbrev nBuf : Space → Nat
  | .hbm => 13
  | .vmem => 7
  | .smem => 0
  | _ => 0

abbrev bufTy : (tb : Table) → Fin (tcTables nBuf tb) → BufTy
  | .hbm, ⟨0, _⟩ => ⟨S4x768x7168, .bf16⟩
  | .hbm, ⟨1, _⟩ => ⟨S7168x20480, .fp8e4m3⟩
  | .hbm, ⟨2, _⟩ => ⟨S20480, .f32⟩
  | .hbm, ⟨3, _⟩ => ⟨S3072x7168, .bf16⟩
  | .hbm, ⟨4, _⟩ => ⟨S1x20480, .f32⟩
  | .hbm, ⟨5, _⟩ => ⟨S3072x1, .f32⟩
  | .hbm, ⟨6, _⟩ => ⟨S3072x10240, .fp8e4m3⟩
  | .hbm, ⟨7, _⟩ => ⟨S3072x7168, .fp8e4m3⟩
  | .hbm, ⟨8, _⟩ => ⟨S3072x1, .f32⟩
  | .hbm, ⟨9, _⟩ => ⟨S4x768x1, .f32⟩
  | .hbm, ⟨10, _⟩ => ⟨S4x768x10240, .fp8e4m3⟩
  | .hbm, ⟨11, _⟩ => ⟨S4x768x7168, .fp8e4m3⟩
  | .hbm, ⟨12, _⟩ => ⟨S4x768x1, .f32⟩
  | .local _ .vmem, ⟨0, _⟩ => ⟨S3072x7168, .bf16⟩
  | .local _ .vmem, ⟨1, _⟩ => ⟨S7168x20480, .fp8e4m3⟩
  | .local _ .vmem, ⟨2, _⟩ => ⟨S1x20480, .f32⟩
  | .local _ .vmem, ⟨3, _⟩ => ⟨S3072x1, .f32⟩
  | .local _ .vmem, ⟨4, _⟩ => ⟨S3072x10240, .fp8e4m3⟩
  | .local _ .vmem, ⟨5, _⟩ => ⟨S3072x7168, .fp8e4m3⟩
  | .local _ .vmem, ⟨6, _⟩ => ⟨S3072x1, .f32⟩
  | _, _ => ⟨S4x768x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3072x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x20480 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x20480 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x10240 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Bits.Region0.lean ====
/-
  The quantising call of the kernel (pallas_call 0): what its body leaves in each output block, its pipeline's
  proof data, and the pipeline's body obligation, for any float values.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__quant_x_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x7168 := Rect.unit (s := S256x7168) ![0, 0] S256x7168.size inb_S256x7168_S256x7168_0_0
abbrev r0_1 : Rect S256x1 := Rect.unit (s := S256x1) ![0, 0] S256x1.size inb_S256x1_S256x1_0_0

/-! ## What the body leaves in each output window's buffer -/

/-- Window 1's staging buffer after the body, from the input windows' blocks: its 1 store as pieces, LAST
    FIRST (Lib/Pipeline/FrameBody.lean `View.canon`; the payloads are the skeleton's). -/
def out0_1 (x0 : Vec F S256x7168 .bf16) : Vec F S256x7168 .fp8e4m3 :=
  View.canon [⟨r0_0, k0_pay1 (k0_pay2 (View.ld x0 r0_0)) (k0_pay5 (View.ld x0 r0_0))⟩]

/-- Its stores tile the buffer (checked by evaluation), so they cover it. -/
theorem cover0_1 (p0 : Vec F S256x7168 .fp8e4m3) (y : S256x7168.Idx) :
    ∃ pc ∈ ([⟨r0_0, p0⟩] : List (View.Piece (Elt F) S256x7168 .fp8e4m3)), y ∈ pc.1.set :=
  View.cover_of_tiled [⟨r0_0, p0⟩] S256x7168.size (by rfl) y

/-- Window 2's staging buffer after the body, from the input windows' blocks: its 1 store as pieces, LAST
    FIRST (Lib/Pipeline/FrameBody.lean `View.canon`; the payloads are the skeleton's). -/
def out0_2 (x0 : Vec F S256x7168 .bf16) : Vec F S256x1 .f32 :=
  View.canon [⟨r0_1, k0_pay4 (View.ld x0 r0_0)⟩]

/-- Its stores tile the buffer (checked by evaluation), so they cover it. -/
theorem cover0_2 (p0 : Vec F S256x1 .f32) (y : S256x1.Idx) :
    ∃ pc ∈ ([⟨r0_1, p0⟩] : List (View.Piece (Elt F) S256x1 .f32)), y ∈ pc.1.set :=
  View.cover_of_tiled [⟨r0_1, p0⟩] S256x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x7168 .bf16) (harg1 : arg1.IsWhole) (arg2 : Memref sig .tc .vmem S256x7168 .fp8e4m3) (harg2 : arg2.IsWhole) (arg3 : Memref sig .tc .vmem S256x1 .f32) (harg3 : arg3.IsWhole)
    (x0 : Vec F S256x7168 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__quant_x_kernel i arg1 harg1 arg2 harg2 arg3 harg3) K := by
  simp only [cc0__quant_x_kernel_eq_skeleton]; unfold cc0__quant_x_kernel_skel
  simp only [k0_part1_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Run

end
-- ==== Proof.Bits.Region1.lean ====
/-
  The gate/up call of the kernel (pallas_call 1).
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.WritesUnit
public import Idealize.ShloMosaic.Lib.Pipeline.ValueKit

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1__gate_up_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 40) — by arithmetic of the point. -/
theorem hcond1_0 : ∀ t : Fin cfg1.N, cond1_0 (grid1.coords t) ↔ t.val % 40 = 0 :=
  (fun t => by
    have ht : t.val < 240 := Nat.lt_of_lt_of_eq t.isLt N_1
    have e0 : (grid1.coords t 0).val = t.val / 40 % 6 := Pipeline.Grid.coords_val t 0 (by decide) rfl
    have e1 : (grid1.coords t 1).val = t.val / 1 % 40 := Pipeline.Grid.coords_val t 1 (by decide) rfl
    simp only [cond1_0, e0, e1]
    word_cmp
   : ∀ t : Fin grid1.N, cond1_0 (grid1.coords t) ↔ t.val % 40 = 0)

/-- The condition of the body's `scf.if` 1 (`k1_h2`), from the grid coordinates (the skeleton's scalar
    chain substituted). -/
abbrev cond1_1 (i : grid1.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond1_1 : ∀ t : Fin cfg1.N, cond1_1 (grid1.coords t) ↔ 1 ≤ t.val % 40 :=
  (by decide +kernel : ∀ t : Fin grid1.N, cond1_1 (grid1.coords t) ↔ 1 ≤ t.val % 40)

/-- The condition of the body's `scf.if` 2 (`k1_h3`), from the grid coordinates (the skeleton's scalar
    chain substituted). -/
abbrev cond1_2 (i : grid1.Coords) : Prop := k1_cond3 i = 1#1
/-- It holds at the points ≡ 39 (mod 40) — by arithmetic of the point. -/
theorem hcond1_2 : ∀ t : Fin cfg1.N, cond1_2 (grid1.coords t) ↔ t.val % 40 = 39 :=
  (fun t => by
    have ht : t.val < 240 := Nat.lt_of_lt_of_eq t.isLt N_1
    have e0 : (grid1.coords t 0).val = t.val / 40 % 6 := Pipeline.Grid.coords_val t 0 (by decide) rfl
    have e1 : (grid1.coords t 1).val = t.val / 1 % 40 := Pipeline.Grid.coords_val t 1 (by decide) rfl
    simp only [cond1_2, k1_cond3, e0, e1]
    word_cmp
   : ∀ t : Fin grid1.N, cond1_2 (grid1.coords t) ↔ t.val % 40 = 39)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-! ## What the body leaves in its buffers -/

/-- The scratch block `d` with the columns of point `i` replaced by `p`. -/
def upd1 (i : grid1.Coords) (d : Vec F S512x10240 .f32) (p : Vec F S512x256 .f32) : Vec F S512x10240 .f32 := fun y =>
  if h : ∀ a : Fin 2, k1_off1 i a ≤ (y a).val ∧ (y a).val < k1_off1 i a + S512x256.size a then
    p (Rect.unitLocal (s := S512x10240) (off := k1_off1 i) (size := S512x256.size) y h) else d y

theorem z2 : ∀ a : Fin 2, (![0, 0] : Fin 2 → ℕ) a = 0 := by decide

/-- A load of a whole buffer reads its contents. -/
theorem ld_full {S : Shape} {e : EltTy} {off : Fin S.rank → ℕ} (inb : ∀ a, off a + S.size a ≤ S.size a) (h : ∀ a, off a = 0)
    (X : S.Idx → Elt F e) : View.ld X (Rect.unit off S.size inb) = X := by
  funext x
  refine congrArg X (funext fun a => Fin.ext ?_)
  show off a + 1 * (x a).val = (x a).val
  rw [h a]; omega

theorem ld_x {e : EltTy} (inb) (X : S512x7168.Idx → Elt F e) : View.ld X (Rect.unit (s := S512x7168) ![0, 0] ![512, 7168] inb) = X := ld_full (S := S512x7168) inb z2 X
theorem ld_s {e : EltTy} (inb) (X : S512x1.Idx → Elt F e) : View.ld X (Rect.unit (s := S512x1) ![0, 0] ![512, 1] inb) = X := ld_full (S := S512x1) inb z2 X
theorem ld_w {e : EltTy} (inb) (X : S7168x256.Idx → Elt F e) : View.ld X (Rect.unit (s := S7168x256) ![0, 0] ![7168, 256] inb) = X := ld_full (S := S7168x256) inb z2 X
theorem ld_v {e : EltTy} (inb) (X : S1x256.Idx → Elt F e) : View.ld X (Rect.unit (s := S1x256) ![0, 0] ![1, 256] inb) = X := ld_full (S := S1x256) inb z2 X
theorem ld_h {e : EltTy} (inb) (X : S512x10240.Idx → Elt F e) : View.ld X (Rect.unit (s := S512x10240) ![0, 0] ![512, 10240] inb) = X := ld_full (S := S512x10240) inb z2 X

/-- A store of a whole buffer leaves its payload. -/
theorem read_writes_full {sig : RefSig} {κ : Kind} {sp : Space} {S : Shape} {e : EltTy} (v : View sig κ sp S e)
    {off : Fin S.rank → ℕ} (inb : ∀ a, off a + S.size a ≤ S.size a) (h : ∀ a, off a = 0) (f : v.ty.Contents (Elt F))
    (w : S.Idx → Elt F e) (L : List (View.Piece (Elt F) S e)) :
    v.read (Elt F) (v.writes (Elt F) f ((⟨Rect.unit off S.size inb, w⟩ : View.Piece (Elt F) S e) :: L)) = w :=
  funext fun y => View.read_writes_cons_unit_of_mem v f inb w L y y rfl fun a => by rw [h a]; omega

theorem rw_s {sig : RefSig} {κ : Kind} {sp : Space} {e : EltTy} (v : View sig κ sp S512x1 e) (inb) (f : v.ty.Contents (Elt F)) (w : S512x1.Idx → Elt F e) (L : List (View.Piece (Elt F) S512x1 e)) :
    v.read (Elt F) (v.writes (Elt F) f ((⟨Rect.unit (s := S512x1) ![0, 0] ![512, 1] inb, w⟩ : View.Piece (Elt F) S512x1 e) :: L)) = w :=
  read_writes_full (S := S512x1) v inb z2 f w L
theorem rw_h {sig : RefSig} {κ : Kind} {sp : Space} {e : EltTy} (v : View sig κ sp S512x10240 e) (inb) (f : v.ty.Contents (Elt F)) (w : S512x10240.Idx → Elt F e) (L : List (View.Piece (Elt F) S512x10240 e)) :
    v.read (Elt F) (v.writes (Elt F) f ((⟨Rect.unit (s := S512x10240) ![0, 0] ![512, 10240] inb, w⟩ : View.Piece (Elt F) S512x10240 e) :: L)) = w :=
  read_writes_full (S := S512x10240) v inb z2 f w L

/-- The store of point `i`'s columns into the scratch, read back. -/
theorem read_upd1 {sig : RefSig} {κ : Kind} {sp : Space} (v : View sig κ sp S512x10240 .f32) (i : grid1.Coords) (f : v.ty.Contents (Elt F))
    (d : Vec F S512x10240 .f32) (hf : v.read (Elt F) f = d) (p : Vec F S512x256 .f32) :
    v.read (Elt F) (v.writes (Elt F) f [(⟨Rect.unit (s := S512x10240) (k1_off1 i) S512x256.size (k1_off1_inb i), p⟩ : View.Piece (Elt F) S512x10240 .f32)]) = upd1 i d p := by
  subst hf
  funext y
  rw [View.read_writes_cons_unit v f (k1_off1_inb i) p [] y rfl]
  rfl

/-! ## The body's runs, one per case of its branches -/

set_option maxHeartbeats 2000000 in
/-- The first column block of a row block: the block goes into the scratch, the running maximum is set. -/
theorem run1_A (c : Dev nD) (i : grid1.Coords) (arg2 : Memref sig .tc .vmem S512x7168 .fp8e4m3) (harg2 : arg2.IsWhole) (arg3 : Memref sig .tc .vmem S512x1 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x10240 .fp8e4m3) (harg8 : arg8.IsWhole) (arg9 : Memref sig .tc .vmem S512x1 .f32) (harg9 : arg9.IsWhole) (arg10 : Memref sig .tc .vmem S512x10240 .f32) (harg10 : arg10.IsWhole) (arg11 : Memref sig .tc .vmem S512x1 .f32) (harg11 : arg11.IsWhole) (hc0 : cond1_0 i) (hc1 : ¬cond1_1 i) (hc2 : ¬cond1_2 i)
    (x0 : Vec F S512x7168 .fp8e4m3) (x1 : Vec F S512x1 .f32) (x2 : Vec F S7168x256 .fp8e4m3) (x3 : Vec F S7168x256 .fp8e4m3) (x4 : Vec F S1x256 .f32) (x5 : Vec F S1x256 .f32) (d10 : Vec F S512x10240 .f32) (d6 : Vec F S512x10240 .fp8e4m3) (d7 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare d7 ∗ owns (c : Thread nD τ) arg10 fullShare d10 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare d7 ∗ owns (c : Thread nD τ) arg10 fullShare (upd1 i d10 (k1_pay7 x0 x1 x2 x3 x4 x5)) ∗ owns (c : Thread nD τ) arg11 fullShare (k1_pay9 x0 x1 x2 x3 x4 x5)) -∗ K ⟨⟩))
      ⊢ wp frame (wpE (defs₀ (F := F)) Variants.none c none) E (cc1__gate_up_kernel i arg2 harg2 arg3 harg3 arg4 harg4 arg5 harg5 arg6 harg6 arg7 harg7 arg8 harg8 arg9 harg9 arg10 harg10 arg11 harg11) K := by
  simp only [cc1__gate_up_kernel_eq_skeleton]; unfold cc1__gate_up_kernel_skel
  simp only [k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro; exact hf6
  isplitl [H7]
  · iexists _; isplitr; swap; · iexact H7
    ipureintro; exact hf7
  isplitl [HS0]
  · iexists _; isplitr; swap; · iexact HS0
    ipureintro
    refine (read_upd1 _ i _ _ (harg10.read_unread _) _).trans ?_
    (try unfold run1_A.sl.r_2); (try unfold run1_A.sl.r_1); (try unfold run1_A.sl.v82); (try unfold run1_A.sl.v41); (try unfold run1_A.sl.HS1_1); (try unfold run1_A.sl.HS0_1); (try unfold run1_A.sl.r); (try unfold run1_A.sl.r); simp only [View.readCov, View.readAt_eq_ld, Memref.IsWhole.read_unread, ld_x, ld_s, ld_w, ld_v, ld_h, rw_s, rw_h, read_upd1 _ i _ _ (harg10.read_unread d10)]
  iexists _; isplitr; swap; · iexact HS1
  ipureintro
  refine (read_writes_full _ _ z2 _ _ _).trans ?_
  (try unfold run1_A.sl.r_2); (try unfold run1_A.sl.r_1); (try unfold run1_A.sl.v82); (try unfold run1_A.sl.v41); (try unfold run1_A.sl.HS1_1); (try unfold run1_A.sl.HS0_1); (try unfold run1_A.sl.r); (try unfold run1_A.sl.r); simp only [View.readCov, View.readAt_eq_ld, Memref.IsWhole.read_unread, ld_x, ld_s, ld_w, ld_v, ld_h, rw_s, rw_h, read_upd1 _ i _ _ (harg10.read_unread d10)]

set_option maxHeartbeats 2000000 in
/-- A middle column block: the block goes into the scratch, the running maximum is raised. -/
theorem run1_B (c : Dev nD) (i : grid1.Coords) (arg2 : Memref sig .tc .vmem S512x7168 .fp8e4m3) (harg2 : arg2.IsWhole) (arg3 : Memref sig .tc .vmem S512x1 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x10240 .fp8e4m3) (harg8 : arg8.IsWhole) (arg9 : Memref sig .tc .vmem S512x1 .f32) (harg9 : arg9.IsWhole) (arg10 : Memref sig .tc .vmem S512x10240 .f32) (harg10 : arg10.IsWhole) (arg11 : Memref sig .tc .vmem S512x1 .f32) (harg11 : arg11.IsWhole) (hc0 : ¬cond1_0 i) (hc1 : cond1_1 i) (hc2 : ¬cond1_2 i)
    (x0 : Vec F S512x7168 .fp8e4m3) (x1 : Vec F S512x1 .f32) (x2 : Vec F S7168x256 .fp8e4m3) (x3 : Vec F S7168x256 .fp8e4m3) (x4 : Vec F S1x256 .f32) (x5 : Vec F S1x256 .f32) (d10 : Vec F S512x10240 .f32) (d6 : Vec F S512x10240 .fp8e4m3) (d7 : Vec F S512x1 .f32) (xs1 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare d7 ∗ owns (c : Thread nD τ) arg10 fullShare d10 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare d7 ∗ owns (c : Thread nD τ) arg10 fullShare (upd1 i d10 (k1_pay7 x0 x1 x2 x3 x4 x5)) ∗ owns (c : Thread nD τ) arg11 fullShare (k1_pay1 (k1_pay8 x0 x1 x2 x3 x4 x5) xs1)) -∗ K ⟨⟩))
      ⊢ wp frame (wpE (defs₀ (F := F)) Variants.none c none) E (cc1__gate_up_kernel i arg2 harg2 arg3 harg3 arg4 harg4 arg5 harg5 arg6 harg6 arg7 harg7 arg8 harg8 arg9 harg9 arg10 harg10 arg11 harg11) K := by
  simp only [cc1__gate_up_kernel_eq_skeleton]; unfold cc1__gate_up_kernel_skel
  simp only [k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro; exact hf6
  isplitl [H7]
  · iexists _; isplitr; swap; · iexact H7
    ipureintro; exact hf7
  isplitl [HS0]
  · iexists _; isplitr; swap; · iexact HS0
    ipureintro
    refine (read_upd1 _ i _ _ (harg10.read_unread _) _).trans ?_
    (try unfold run1_B.sl.r_2); (try unfold run1_B.sl.r_1); (try unfold run1_B.sl.v82); (try unfold run1_B.sl.v41); (try unfold run1_B.sl.HS1_1); (try unfold run1_B.sl.HS0_1); (try unfold run1_B.sl.r); (try unfold run1_B.sl.r); simp only [View.readCov, View.readAt_eq_ld, Memref.IsWhole.read_unread, ld_x, ld_s, ld_w, ld_v, ld_h, rw_s, rw_h, read_upd1 _ i _ _ (harg10.read_unread d10)]
  iexists _; isplitr; swap; · iexact HS1
  ipureintro
  refine (read_writes_full _ _ z2 _ _ _).trans ?_
  (try unfold run1_B.sl.r_2); (try unfold run1_B.sl.r_1); (try unfold run1_B.sl.v82); (try unfold run1_B.sl.v41); (try unfold run1_B.sl.HS1_1); (try unfold run1_B.sl.HS0_1); (try unfold run1_B.sl.r); (try unfold run1_B.sl.r); simp only [View.readCov, View.readAt_eq_ld, Memref.IsWhole.read_unread, ld_x, ld_s, ld_w, ld_v, ld_h, rw_s, rw_h, read_upd1 _ i _ _ (harg10.read_unread d10)]

set_option maxHeartbeats 2000000 in
/-- The last column block: as a middle one, and then the row block is scaled, quantised and stored. -/
theorem run1_C (c : Dev nD) (i : grid1.Coords) (arg2 : Memref sig .tc .vmem S512x7168 .fp8e4m3) (harg2 : arg2.IsWhole) (arg3 : Memref sig .tc .vmem S512x1 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x10240 .fp8e4m3) (harg8 : arg8.IsWhole) (arg9 : Memref sig .tc .vmem S512x1 .f32) (harg9 : arg9.IsWhole) (arg10 : Memref sig .tc .vmem S512x10240 .f32) (harg10 : arg10.IsWhole) (arg11 : Memref sig .tc .vmem S512x1 .f32) (harg11 : arg11.IsWhole) (hc0 : ¬cond1_0 i) (hc1 : cond1_1 i) (hc2 : cond1_2 i)
    (x0 : Vec F S512x7168 .fp8e4m3) (x1 : Vec F S512x1 .f32) (x2 : Vec F S7168x256 .fp8e4m3) (x3 : Vec F S7168x256 .fp8e4m3) (x4 : Vec F S1x256 .f32) (x5 : Vec F S1x256 .f32) (d10 : Vec F S512x10240 .f32) (xs1 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare d10 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k1_pay2 (k1_pay5 (k1_pay1 (k1_pay8 x0 x1 x2 x3 x4 x5) xs1)) (upd1 i d10 (k1_pay7 x0 x1 x2 x3 x4 x5))) ∗ owns (c : Thread nD τ) arg9 fullShare (k1_pay4 (k1_pay1 (k1_pay8 x0 x1 x2 x3 x4 x5) xs1)) ∗ owns (c : Thread nD τ) arg10 fullShare (upd1 i d10 (k1_pay7 x0 x1 x2 x3 x4 x5)) ∗ owns (c : Thread nD τ) arg11 fullShare (k1_pay1 (k1_pay8 x0 x1 x2 x3 x4 x5) xs1)) -∗ K ⟨⟩))
      ⊢ wp frame (wpE (defs₀ (F := F)) Variants.none c none) E (cc1__gate_up_kernel i arg2 harg2 arg3 harg3 arg4 harg4 arg5 harg5 arg6 harg6 arg7 harg7 arg8 harg8 arg9 harg9 arg10 harg10 arg11 harg11) K := by
  simp only [cc1__gate_up_kernel_eq_skeleton]; unfold cc1__gate_up_kernel_skel
  simp only [k1_part2_eq_skeleton, k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    refine (read_writes_full _ _ z2 _ _ _).trans ?_
    (try unfold run1_C.sl.r_2); (try unfold run1_C.sl.r_1); (try unfold run1_C.sl.v82); (try unfold run1_C.sl.v41); (try unfold run1_C.sl.HS1_1); (try unfold run1_C.sl.HS0_1); (try unfold run1_C.sl.r); (try unfold run1_C.sl.r); simp only [View.readCov, View.readAt_eq_ld, Memref.IsWhole.read_unread, ld_x, ld_s, ld_w, ld_v, ld_h, rw_s, rw_h, read_upd1 _ i _ _ (harg10.read_unread d10)]
  isplitl [H7]
  · iexists _; isplitr; swap; · iexact H7
    ipureintro
    refine (read_writes_full _ _ z2 _ _ _).trans ?_
    (try unfold run1_C.sl.r_2); (try unfold run1_C.sl.r_1); (try unfold run1_C.sl.v82); (try unfold run1_C.sl.v41); (try unfold run1_C.sl.HS1_1); (try unfold run1_C.sl.HS0_1); (try unfold run1_C.sl.r); (try unfold run1_C.sl.r); simp only [View.readCov, View.readAt_eq_ld, Memref.IsWhole.read_unread, ld_x, ld_s, ld_w, ld_v, ld_h, rw_s, rw_h, read_upd1 _ i _ _ (harg10.read_unread d10)]
  isplitl [HS0]
  · iexists _; isplitr; swap; · iexact HS0
    ipureintro
    refine (read_upd1 _ i _ _ (harg10.read_unread _) _).trans ?_
    (try unfold run1_C.sl.r_2); (try unfold run1_C.sl.r_1); (try unfold run1_C.sl.v82); (try unfold run1_C.sl.v41); (try unfold run1_C.sl.HS1_1); (try unfold run1_C.sl.HS0_1); (try unfold run1_C.sl.r); (try unfold run1_C.sl.r); simp only [View.readCov, View.readAt_eq_ld, Memref.IsWhole.read_unread, ld_x, ld_s, ld_w, ld_v, ld_h, rw_s, rw_h, read_upd1 _ i _ _ (harg10.read_unread d10)]
  iexists _; isplitr; swap; · iexact HS1
  ipureintro
  refine (read_writes_full _ _ z2 _ _ _).trans ?_
  (try unfold run1_C.sl.r_2); (try unfold run1_C.sl.r_1); (try unfold run1_C.sl.v82); (try unfold run1_C.sl.v41); (try unfold run1_C.sl.HS1_1); (try unfold run1_C.sl.HS0_1); (try unfold run1_C.sl.r); (try unfold run1_C.sl.r); simp only [View.readCov, View.readAt_eq_ld, Memref.IsWhole.read_unread, ld_x, ld_s, ld_w, ld_v, ld_h, rw_s, rw_h, read_upd1 _ i _ _ (harg10.read_unread d10)]

/-! ## The scratch between the points -/

/-- The columns point `i` stores into the scratch start at column 256 times its second coordinate. -/
theorem off1_val : ∀ t : Fin cfg1.N, k1_off1 (grid1.coords t) 0 = 0 ∧ k1_off1 (grid1.coords t) 1 = 256 * (t.val % 40) :=
  (by decide +kernel : ∀ t : Fin grid1.N, k1_off1 (grid1.coords t) 0 = 0 ∧ k1_off1 (grid1.coords t) 1 = 256 * (t.val % 40))

theorem mk240 {n : ℕ} (h : n < 240) : n < cfg1.N := lt_of_lt_of_eq h (show cfg1.N = 240 from N_1).symm
theorem lt240 (t : Fin cfg1.N) : t.val < 240 := lt_of_lt_of_eq t.isLt (show cfg1.N = 240 from N_1)

/-- The scratch operands: whole scoped buffers of the kernel's own. -/
abbrev scM1_0 : Memref sig .tc .vmem S512x10240 .f32 := Memref.whole cc1_scratch0
abbrev scM1_1 : Memref sig .tc .vmem S512x1 .f32 := Memref.whole cc1_scratch1

/-- The block of `h` that point `t` computes. -/
def hblk (c : Dev nD) (t : Fin cfg1.N) : Vec F S512x256 .f32 :=
  k1_pay7 (iblk1 V c 0 t) (iblk1 V c 1 t) (iblk1 V c 2 t) (iblk1 V c 3 t) (iblk1 V c 4 t) (iblk1 V c 5 t)
/-- Its row maxima of magnitudes. -/
def bmx (c : Dev nD) (t : Fin cfg1.N) : Vec F S512x1 .f32 :=
  k1_pay8 (iblk1 V c 0 t) (iblk1 V c 1 t) (iblk1 V c 2 t) (iblk1 V c 3 t) (iblk1 V c 4 t) (iblk1 V c 5 t)
/-- The same as stored at the first column block. -/
def bmx0 (c : Dev nD) (t : Fin cfg1.N) : Vec F S512x1 .f32 :=
  k1_pay9 (iblk1 V c 0 t) (iblk1 V c 1 t) (iblk1 V c 2 t) (iblk1 V c 3 t) (iblk1 V c 4 t) (iblk1 V c 5 t)

/-- The running row maximum after point `n`. -/
def amxN (c : Dev nD) : (n : ℕ) → n < cfg1.N → Vec F S512x1 .f32
  | 0, h => bmx0 V c ⟨0, h⟩
  | n + 1, h => if (n + 1) % 40 = 0 then bmx0 V c ⟨n + 1, h⟩ else k1_pay1 (bmx V c ⟨n + 1, h⟩) (amxN c n (Nat.lt_of_succ_lt h))
abbrev amx (c : Dev nD) (t : Fin cfg1.N) : Vec F S512x1 .f32 := amxN V c t.val t.isLt

theorem amx_first (c : Dev nD) (t : Fin cfg1.N) (h : t.val % 40 = 0) : amx V c t = bmx0 V c t := by
  obtain ⟨n, hn⟩ := t
  cases n with
  | zero => rfl
  | succ n => exact if_pos h
theorem amx_next (c : Dev nD) (t u : Fin cfg1.N) (hu : u.val + 1 = t.val) (h : t.val % 40 ≠ 0) :
    amx V c t = k1_pay1 (bmx V c t) (amx V c u) := by
  obtain ⟨n, hn⟩ := t; obtain ⟨k, hk⟩ := u
  obtain rfl : k + 1 = n := hu
  exact if_neg h

theorem pos256 : ∀ a : Fin 2, 0 < S512x256.size a := by decide

/-- The point of `t`'s row block that computes column `j`. -/
def pt1 (t : Fin cfg1.N) (y : S512x10240.Idx) : Fin cfg1.N := ⟨40 * (t.val / 40) + (y (1 : Fin 2)).val / 256, by
  have h1 : (y (1 : Fin 2)).val < 10240 := (y (1 : Fin 2)).isLt
  have h2 := lt240 t
  exact mk240 (by omega)⟩

theorem pt1_congr (t u : Fin cfg1.N) (y : S512x10240.Idx) (h : t.val / 40 = u.val / 40) : pt1 t y = pt1 u y :=
  Fin.ext (by unfold pt1; show 40 * (t.val / 40) + _ = 40 * (u.val / 40) + _; rw [h])

/-- The place of an index of the row block within its column block. -/
def loc1 (y : S512x10240.Idx) : S512x256.Idx := fun a => ⟨(y a).val % S512x256.size a, Nat.mod_lt _ (pos256 a)⟩

/-- The row block of `h` that point `t` lies in, whole. -/
def hrow (c : Dev nD) (t : Fin cfg1.N) : Vec F S512x10240 .f32 := fun y => hblk V c (pt1 t y) (loc1 y)

theorem hrow_congr (c : Dev nD) (t u : Fin cfg1.N) (h : t.val / 40 = u.val / 40) : hrow V c t = hrow V c u := by
  funext y
  unfold hrow
  rw [pt1_congr t u _ h]

/-- What the scratch holds before point `n`: after point `n - 1`, the columns so far and their row maxima. -/
def Inv1 (c : Dev nD) (n : ℕ) (d10 : Vec F S512x10240 .f32) (d11 : Vec F S512x1 .f32) : Prop :=
  ∀ t : Fin cfg1.N, t.val + 1 = n →
    (∀ y : S512x10240.Idx, (y (1 : Fin 2)).val < 256 * (t.val % 40 + 1) → d10 y = hrow V c t y) ∧ d11 = amx V c t

/-- Storing point `t`'s columns over the earlier ones. -/
theorem upd1_hrow (c : Dev nD) (t : Fin cfg1.N) (d10 : Vec F S512x10240 .f32)
    (hd : ∀ y : S512x10240.Idx, (y (1 : Fin 2)).val < 256 * (t.val % 40) → d10 y = hrow V c t y)
    (y : S512x10240.Idx) (hy : (y (1 : Fin 2)).val < 256 * (t.val % 40 + 1)) :
    upd1 (grid1.coords t) d10 (hblk V c t) y = hrow V c t y := by
  obtain ⟨o0, o1⟩ := off1_val t
  have y0 : (y (0 : Fin 2)).val < 512 := (y (0 : Fin 2)).isLt
  unfold upd1
  by_cases h : ∀ a : Fin 2, k1_off1 (grid1.coords t) a ≤ (y a).val ∧ (y a).val < k1_off1 (grid1.coords t) a + S512x256.size a
  · rw [dif_pos h]
    have h1 := (h 1).1; rw [o1] at h1
    unfold hrow
    have e : pt1 t y = t :=
      Fin.ext (by unfold pt1; show 40 * (t.val / 40) + (y (1 : Fin 2)).val / 256 = t.val; omega)
    rw [e]
    refine congrArg (hblk V c t) (funext fun a => Fin.ext ?_)
    rw [Rect.unitLocal_val]
    revert a
    refine Fin.forall_fin_two.mpr ⟨?_, ?_⟩
    · show (y (0 : Fin 2)).val - k1_off1 (grid1.coords t) 0 = (y (0 : Fin 2)).val % 512
      rw [o0]; omega
    · show (y (1 : Fin 2)).val - k1_off1 (grid1.coords t) 1 = (y (1 : Fin 2)).val % 256
      rw [o1]; omega
  · rw [dif_neg h]
    refine hd y ?_
    by_contra hc
    refine h (Fin.forall_fin_two.mpr ⟨?_, ?_⟩)
    · rw [o0]; exact ⟨Nat.zero_le _, by show (y (0 : Fin 2)).val < 0 + 512; omega⟩
    · rw [o1]; exact ⟨by omega, by show (y (1 : Fin 2)).val < 256 * (t.val % 40) + 256; omega⟩

/-- Before a point that is not the first of its row block, the scratch holds the earlier columns. -/
theorem Inv1.cols {c : Dev nD} {t : Fin cfg1.N} {d10 : Vec F S512x10240 .f32} {d11 : Vec F S512x1 .f32} (h : Inv1 V c t.val d10 d11) :
    ∀ y : S512x10240.Idx, (y (1 : Fin 2)).val < 256 * (t.val % 40) → d10 y = hrow V c t y := fun y hy => by
  by_cases h0 : t.val % 40 = 0
  · exfalso; omega
  · have hN := lt240 t
    let u : Fin cfg1.N := ⟨t.val - 1, mk240 (by omega)⟩
    have hu : u.val + 1 = t.val := by show t.val - 1 + 1 = t.val; omega
    rw [hrow_congr V c t u (by omega)]
    exact (h u hu).1 y (by omega)

/-- What the point leaves is the invariant after it: first column block; -/
theorem Inv1.first {c : Dev nD} {t : Fin cfg1.N} {d10 : Vec F S512x10240 .f32} {d11 : Vec F S512x1 .f32} (h : Inv1 V c t.val d10 d11)
    (h0 : t.val % 40 = 0) : Inv1 V c (t.val + 1) (upd1 (grid1.coords t) d10 (hblk V c t)) (bmx0 V c t) := fun u hu => by
  obtain rfl : u = t := Fin.ext (by omega)
  exact ⟨fun y hy => upd1_hrow V c u d10 h.cols y hy, (amx_first V c u h0).symm⟩
/-- later column blocks. -/
theorem Inv1.next {c : Dev nD} {t : Fin cfg1.N} {d10 : Vec F S512x10240 .f32} {d11 : Vec F S512x1 .f32} (h : Inv1 V c t.val d10 d11)
    (h0 : t.val % 40 ≠ 0) : Inv1 V c (t.val + 1) (upd1 (grid1.coords t) d10 (hblk V c t)) (k1_pay1 (bmx V c t) d11)
      ∧ k1_pay1 (bmx V c t) d11 = amx V c t := by
  have hN := lt240 t
  let u : Fin cfg1.N := ⟨t.val - 1, mk240 (by omega)⟩
  have hu : u.val + 1 = t.val := by show t.val - 1 + 1 = t.val; omega
  have e : k1_pay1 (bmx V c t) d11 = amx V c t := by rw [amx_next V c t u hu h0, (h u hu).2]
  refine ⟨fun v hv => ?_, e⟩
  obtain rfl : v = t := Fin.ext (by omega)
  exact ⟨fun y hy => upd1_hrow V c v d10 h.cols y hy, e⟩
/-- At the last column block the scratch is the whole row block. -/
theorem Inv1.last {c : Dev nD} {t : Fin cfg1.N} {d10 : Vec F S512x10240 .f32} {d11 : Vec F S512x1 .f32} (h : Inv1 V c t.val d10 d11)
    (h0 : t.val % 40 = 39) : upd1 (grid1.coords t) d10 (hblk V c t) = hrow V c t :=
  funext fun y => upd1_hrow V c t d10 h.cols y (by have h1 : (y (1 : Fin 2)).val < 10240 := (y (1 : Fin 2)).isLt; omega)

/-- The first call's staging buffers, which this call leaves alone. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The invariant before point `n`. -/
def PhiS1 (c : Dev nD) (n : ℕ) : sProp 𝕄 :=
  iprop(∃ d10, ∃ d11, ⌜Inv1 V c n d10 d11⌝ ∗ owns (c : Thread nD τ) scM1_0 fullShare d10 ∗ owns (c : Thread nD τ) scM1_1 fullShare d11 ∗ Rest1 c ∗ (∃ r, prngReg c r))

theorem PhiS1_in (c : Dev nD) : (Pipeline.ΦA spec1 c : sProp 𝕄) ⊢ PhiS1 V c 0 := by
  unfold Pipeline.ΦA PhiS1 Rest1; rw [scopedRest1_eq]; simp only [scM1_0, scM1_1, owns_whole]
  iintro ⟨⟨H0, H1, H2, H3, H4, H5, ⟨%a, HA⟩, ⟨%b, HB⟩⟩, Hp⟩
  iexists a, b
  isplitr
  · ipureintro; intro t ht; exact absurd ht (Nat.succ_ne_zero _)
  isplitl [HA]; · iexact HA
  isplitl [HB]; · iexact HB
  isplitl [H0 H1 H2 H3 H4 H5]
  · isplitl [H0]; · iexact H0
    isplitl [H1]; · iexact H1
    isplitl [H2]; · iexact H2
    isplitl [H3]; · iexact H3
    isplitl [H4]; · iexact H4
    iexact H5
  iexact Hp

theorem PhiS1_out (c : Dev nD) (n : ℕ) : PhiS1 V c n ⊢ (Pipeline.ΦA spec1 c : sProp 𝕄) := by
  unfold Pipeline.ΦA PhiS1 Rest1; rw [scopedRest1_eq]; simp only [scM1_0, scM1_1, owns_whole]
  iintro ⟨%a, %b, -, HA, HB, ⟨H0, H1, H2, H3, H4, H5⟩, Hp⟩
  isplitr [Hp]
  · isplitl [H0]; · iexact H0
    isplitl [H1]; · iexact H1
    isplitl [H2]; · iexact H2
    isplitl [H3]; · iexact H3
    isplitl [H4]; · iexact H4
    isplitl [H5]; · iexact H5
    isplitl [HA]; · iexists a; iexact HA
    iexists b; iexact HB
  iexact Hp

/-! ## The pipeline's proof data -/

/-- The codes and the scales a row block ends with. -/
def out1_6 (c : Dev nD) (t : Fin cfg1.N) : Vec F S512x10240 .fp8e4m3 := k1_pay2 (k1_pay5 (amx V c t)) (hrow V c t)
def out1_7 (c : Dev nD) (t : Fin cfg1.N) : Vec F S512x1 .f32 := k1_pay4 (amx V c t)

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 V c t
    | ⟨7, _⟩ => out1_7 V c t
  Φ t := PhiS1 V c t.val
  q w := Pipeline.shareOf spec1 w
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 V c t := by dsimp only [dat1]
theorem after1_7 (c : Dev nD) (t : Fin cfg1.N) : (dat1 V c).after 7 t = out1_7 V c t := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

theorem idleAt1_6 (t : Fin cfg1.N) (h : ¬cond1_2 (grid1.coords t)) : cfg1.idle 6 (cfg1.grid.coords t) = true := by
  show (!(k1_cond3 (grid1.coords t) == 1#1)) = true
  simpa using h
theorem idleAt1_7 (t : Fin cfg1.N) (h : ¬cond1_2 (grid1.coords t)) : cfg1.idle 7 (cfg1.grid.coords t) = true := by
  show (!(k1_cond3 (grid1.coords t) == 1#1)) = true
  simpa using h
theorem liveAt1_6 (t : Fin cfg1.N) (h : cond1_2 (grid1.coords t)) : cfg1.idle 6 (cfg1.grid.coords t) = false := by
  show (!(k1_cond3 (grid1.coords t) == 1#1)) = false
  simpa using h
theorem liveAt1_7 (t : Fin cfg1.N) (h : cond1_2 (grid1.coords t)) : cfg1.idle 7 (cfg1.grid.coords t) = false := by
  show (!(k1_cond3 (grid1.coords t) == 1#1)) = false
  simpa using h
theorem noflush1_6 (t : Fin cfg1.N) (h : t.val % 40 ≠ 39) : (cfg1.win 6).flush t = false := Bool.eq_false_iff.mpr fun e => h ((flush1_6 t).mp e)
theorem noflush1_7 (t : Fin cfg1.N) (h : t.val % 40 ≠ 39) : (cfg1.win 7).flush t = false := Bool.eq_false_iff.mpr fun e => h ((flush1_7 t).mp e)

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ (dat1 V c).leavesExact 6 t
    ∗ (dat1 V c).leavesExact 7 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = PhiS1 V c (t.val + 1) from rfl, show (dat1 V c).Φ t.castSucc = PhiS1 V c t.val from rfl,
    show (dat1 V c).owesAt () t.succ = (dat1 V c).owesAt () t.castSucc from rfl,
    after1_0, after1_1, after1_2, after1_3, after1_4, after1_5]
  unfold PhiS1
  have hN := lt240 t
  by_cases h0 : t.val % 40 = 0
  · have c0 := (hcond1_0 t).mpr h0
    have c1 : ¬cond1_1 (grid1.coords t) := fun h => by have := (hcond1_1 t).mp h; omega
    have c2 : ¬cond1_2 (grid1.coords t) := fun h => by have := (hcond1_2 t).mp h; omega
    rw [Dat.leavesExact_idle _ 6 t (idleAt1_6 t c2) (noflush1_6 t (by omega)), Dat.leavesExact_idle _ 7 t (idleAt1_7 t c2) (noflush1_7 t (by omega))]
    iintro ⟨⟨%d10, %d11, %hI, HS0, HS1, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run1_A c (grid1.coords t) _ _ _ _ _ _ _ _ _ _ _ _ _ _ _ _ _ _ _ _ c0 c1 c2 (iblk1 V c 0 t) (iblk1 V c 1 t) (iblk1 V c 2 t) (iblk1 V c 3 t) (iblk1 V c 4 t) (iblk1 V c 5 t) d10 ((dat1 V c).before 6 t d6) ((dat1 V c).before 7 t d7) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexists _; iexact HS1
    iintro ⟨H0, H1, H2, H3, H4, H5, H6, H7, HS0, HS1⟩
    isplitl [HS0 HS1 Hr Hg]
    · iexists _, _
      isplitr; · ipureintro; exact hI.first V h0
      isplitl [HS0]; · iexact HS0
      isplitl [HS1]; · iexact HS1
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    iexists d7; iexact H7
  · have c0 : ¬cond1_0 (grid1.coords t) := fun h => h0 ((hcond1_0 t).mp h)
    have c1 := (hcond1_1 t).mpr (by omega)
    by_cases h2 : t.val % 40 = 39
    · have c2 := (hcond1_2 t).mpr h2
      rw [show (dat1 V c).leavesExact 6 t = owns (c : Thread nD τ) (st1_6 t) fullShare ((dat1 V c).after 6 t) from by
          unfold Dat.leavesExact; rw [liveAt1_6 t c2],
        show (dat1 V c).leavesExact 7 t = owns (c : Thread nD τ) (st1_7 t) fullShare ((dat1 V c).after 7 t) from by
          unfold Dat.leavesExact; rw [liveAt1_7 t c2], after1_6, after1_7]
      iintro ⟨⟨%d10, %d11, %hI, HS0, HS1, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      have hn := hI.next V h0
      have hl := hI.last V h2
      unfold out1_6 out1_7
      rw [← hn.2, ← hl]
      iapply (run1_C c (grid1.coords t) _ _ _ _ _ _ _ _ _ _ _ _ _ _ _ _ _ _ _ _ c0 c1 c2 (iblk1 V c 0 t) (iblk1 V c 1 t) (iblk1 V c 2 t) (iblk1 V c 3 t) (iblk1 V c 4 t) (iblk1 V c 5 t) d10 d11 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hr Hg]
      · iexists _, _
        isplitr; · ipureintro; exact hn.1
        isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have c2 : ¬cond1_2 (grid1.coords t) := fun h => h2 ((hcond1_2 t).mp h)
      rw [Dat.leavesExact_idle _ 6 t (idleAt1_6 t c2) (noflush1_6 t h2), Dat.leavesExact_idle _ 7 t (idleAt1_7 t c2) (noflush1_7 t h2)]
      iintro ⟨⟨%d10, %d11, %hI, HS0, HS1, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_B c (grid1.coords t) _ _ _ _ _ _ _ _ _ _ _ _ _ _ _ _ _ _ _ _ c0 c1 c2 (iblk1 V c 0 t) (iblk1 V c 1 t) (iblk1 V c 2 t) (iblk1 V c 3 t) (iblk1 V c 4 t) (iblk1 V c 5 t) d10 ((dat1 V c).before 6 t d6) ((dat1 V c).before 7 t d7) d11 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hr Hg]
      · iexists _, _
        isplitr; · ipureintro; exact (hI.next V h0).1
        isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists d6; iexact H6
      iexists d7; iexact H7

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Kernel.Run

end
-- ==== Proof.Bits.Run.lean ====
/-
  The kernel's run: the two pallas_calls among the host's reshapes, as segments, for any float values.
-/
module

public import proofs.«01_k».proof.Proof.Bits.Region0
public import proofs.«01_k».proof.Proof.Bits.Region1
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v4, main_v5, main_v6, main_v7]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (A_eq1 (V3 m ρ) c) w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = PhiS1 (V3 m ρ) c 0 from rfl]
    iintro ⟨Hp, -, Hr⟩
    iapply (PhiS1_in (V3 m ρ) c)
    unfold Pipeline.ΦA
    isplitl [Hr]; · iexact Hr
    iexact Hp
  hout c := by
    rw [Pipeline.ownSems0_none, show (pdats m ρ 1 c).Φ (Fin.last _) = PhiS1 (V3 m ρ) c cfg1.N from rfl]
    iintro H
    ihave H := (PhiS1_out (V3 m ρ) c cfg1.N) $$ H
    unfold Pipeline.ΦA
    icases H with ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole run, at any float values: every weakly fair execution of @main terminates without fault, and every final
    state has every unscoped TensorCore buffer at the last boundary's contents and every semaphore counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c)⟩, h.2⟩) (run m ρ)

end Cert.Kernel.Run

end
-- ==== Proof.Ideal.Region0.lean ====
/-
  The quantising call of the kernel (pallas_call 0): what its body leaves in each output block, its pipeline's
  proof data, and the pipeline's body obligation, for any float values.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__quant_x_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x7168 := Rect.unit (s := S256x7168) ![0, 0] S256x7168.size inb_S256x7168_S256x7168_0_0
abbrev r0_1 : Rect S256x1 := Rect.unit (s := S256x1) ![0, 0] S256x1.size inb_S256x1_S256x1_0_0

/-! ## What the body leaves in each output window's buffer -/

/-- Window 1's staging buffer after the body, from the input windows' blocks: its 1 store as pieces, LAST
    FIRST (Lib/Pipeline/FrameBody.lean `View.canon`; the payloads are the skeleton's). -/
def out0_1 (x0 : Vec F S256x7168 .bf16) : Vec F S256x7168 .fp8e4m3 :=
  View.canon [⟨r0_0, k0_pay1 (k0_pay2 (View.ld x0 r0_0)) (k0_pay5 (View.ld x0 r0_0))⟩]

/-- Its stores tile the buffer (checked by evaluation), so they cover it. -/
theorem cover0_1 (p0 : Vec F S256x7168 .fp8e4m3) (y : S256x7168.Idx) :
    ∃ pc ∈ ([⟨r0_0, p0⟩] : List (View.Piece (Elt F) S256x7168 .fp8e4m3)), y ∈ pc.1.set :=
  View.cover_of_tiled [⟨r0_0, p0⟩] S256x7168.size (by rfl) y

/-- Window 2's staging buffer after the body, from the input windows' blocks: its 1 store as pieces, LAST
    FIRST (Lib/Pipeline/FrameBody.lean `View.canon`; the payloads are the skeleton's). -/
def out0_2 (x0 : Vec F S256x7168 .bf16) : Vec F S256x1 .f32 :=
  View.canon [⟨r0_1, k0_pay4 (View.ld x0 r0_0)⟩]

/-- Its stores tile the buffer (checked by evaluation), so they cover it. -/
theorem cover0_2 (p0 : Vec F S256x1 .f32) (y : S256x1.Idx) :
    ∃ pc ∈ ([⟨r0_1, p0⟩] : List (View.Piece (Elt F) S256x1 .f32)), y ∈ pc.1.set :=
  View.cover_of_tiled [⟨r0_1, p0⟩] S256x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x7168 .bf16) (harg1 : arg1.IsWhole) (arg2 : Memref sig .tc .vmem S256x7168 .fp8e4m3) (harg2 : arg2.IsWhole) (arg3 : Memref sig .tc .vmem S256x1 .f32) (harg3 : arg3.IsWhole)
    (x0 : Vec F S256x7168 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__quant_x_kernel i arg1 harg1 arg2 harg2 arg3 harg3) K := by
  simp only [cc0__quant_x_kernel_eq_skeleton]; unfold cc0__quant_x_kernel_skel
  simp only [k0_part1_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Run

end
-- ==== Proof.Ideal.Region1.lean ====
/-
  The gate/up call of the kernel (pallas_call 1).
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.WritesUnit
public import Idealize.ShloMosaic.Lib.Pipeline.ValueKit

@[expose] public section

-- membership in a rectangle of production extents (`View.cover_of_tiled`): the elaborator's structural look
-- recurses once per coordinate of the long axes
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1__gate_up_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 40) — by arithmetic of the point. -/
theorem hcond1_0 : ∀ t : Fin cfg1.N, cond1_0 (grid1.coords t) ↔ t.val % 40 = 0 :=
  (fun t => by
    have ht : t.val < 240 := Nat.lt_of_lt_of_eq t.isLt N_1
    have e0 : (grid1.coords t 0).val = t.val / 40 % 6 := Pipeline.Grid.coords_val t 0 (by decide) rfl
    have e1 : (grid1.coords t 1).val = t.val / 1 % 40 := Pipeline.Grid.coords_val t 1 (by decide) rfl
    simp only [cond1_0, e0, e1]
    word_cmp
   : ∀ t : Fin grid1.N, cond1_0 (grid1.coords t) ↔ t.val % 40 = 0)

/-- The condition of the body's `scf.if` 1 (`k1_h2`), from the grid coordinates (the skeleton's scalar
    chain substituted). -/
abbrev cond1_1 (i : grid1.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond1_1 : ∀ t : Fin cfg1.N, cond1_1 (grid1.coords t) ↔ 1 ≤ t.val % 40 :=
  (by decide +kernel : ∀ t : Fin grid1.N, cond1_1 (grid1.coords t) ↔ 1 ≤ t.val % 40)

/-- The condition of the body's `scf.if` 2 (`k1_h3`), from the grid coordinates (the skeleton's scalar
    chain substituted). -/
abbrev cond1_2 (i : grid1.Coords) : Prop := k1_cond3 i = 1#1
/-- It holds at the points ≡ 39 (mod 40) — by arithmetic of the point. -/
theorem hcond1_2 : ∀ t : Fin cfg1.N, cond1_2 (grid1.coords t) ↔ t.val % 40 = 39 :=
  (fun t => by
    have ht : t.val < 240 := Nat.lt_of_lt_of_eq t.isLt N_1
    have e0 : (grid1.coords t 0).val = t.val / 40 % 6 := Pipeline.Grid.coords_val t 0 (by decide) rfl
    have e1 : (grid1.coords t 1).val = t.val / 1 % 40 := Pipeline.Grid.coords_val t 1 (by decide) rfl
    simp only [cond1_2, k1_cond3, e0, e1]
    word_cmp
   : ∀ t : Fin grid1.N, cond1_2 (grid1.coords t) ↔ t.val % 40 = 39)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-! ## What the body leaves in its buffers -/

/-- The scratch block `d` with the columns of point `i` replaced by `p`. -/
def upd1 (i : grid1.Coords) (d : Vec F S512x10240 .f32) (p : Vec F S512x256 .f32) : Vec F S512x10240 .f32 := fun y =>
  if h : ∀ a : Fin 2, k1_off1 i a ≤ (y a).val ∧ (y a).val < k1_off1 i a + S512x256.size a then
    p (Rect.unitLocal (s := S512x10240) (off := k1_off1 i) (size := S512x256.size) y h) else d y

theorem z2 : ∀ a : Fin 2, (![0, 0] : Fin 2 → ℕ) a = 0 := by decide

/-- A load of a whole buffer reads its contents. -/
theorem ld_full {S : Shape} {e : EltTy} {off : Fin S.rank → ℕ} (inb : ∀ a, off a + S.size a ≤ S.size a) (h : ∀ a, off a = 0)
    (X : S.Idx → Elt F e) : View.ld X (Rect.unit off S.size inb) = X := by
  funext x
  refine congrArg X (funext fun a => Fin.ext ?_)
  show off a + 1 * (x a).val = (x a).val
  rw [h a]; omega

theorem ld_x {e : EltTy} (inb) (X : S512x7168.Idx → Elt F e) : View.ld X (Rect.unit (s := S512x7168) ![0, 0] ![512, 7168] inb) = X := ld_full (S := S512x7168) inb z2 X
theorem ld_s {e : EltTy} (inb) (X : S512x1.Idx → Elt F e) : View.ld X (Rect.unit (s := S512x1) ![0, 0] ![512, 1] inb) = X := ld_full (S := S512x1) inb z2 X
theorem ld_w {e : EltTy} (inb) (X : S7168x256.Idx → Elt F e) : View.ld X (Rect.unit (s := S7168x256) ![0, 0] ![7168, 256] inb) = X := ld_full (S := S7168x256) inb z2 X
theorem ld_v {e : EltTy} (inb) (X : S1x256.Idx → Elt F e) : View.ld X (Rect.unit (s := S1x256) ![0, 0] ![1, 256] inb) = X := ld_full (S := S1x256) inb z2 X
theorem ld_h {e : EltTy} (inb) (X : S512x10240.Idx → Elt F e) : View.ld X (Rect.unit (s := S512x10240) ![0, 0] ![512, 10240] inb) = X := ld_full (S := S512x10240) inb z2 X

/-- A store of a whole buffer leaves its payload. -/
theorem read_writes_full {sig : RefSig} {κ : Kind} {sp : Space} {S : Shape} {e : EltTy} (v : View sig κ sp S e)
    {off : Fin S.rank → ℕ} (inb : ∀ a, off a + S.size a ≤ S.size a) (h : ∀ a, off a = 0) (f : v.ty.Contents (Elt F))
    (w : S.Idx → Elt F e) (L : List (View.Piece (Elt F) S e)) :
    v.read (Elt F) (v.writes (Elt F) f ((⟨Rect.unit off S.size inb, w⟩ : View.Piece (Elt F) S e) :: L)) = w :=
  funext fun y => View.read_writes_cons_unit_of_mem v f inb w L y y rfl fun a => by rw [h a]; omega

theorem rw_s {sig : RefSig} {κ : Kind} {sp : Space} {e : EltTy} (v : View sig κ sp S512x1 e) (inb) (f : v.ty.Contents (Elt F)) (w : S512x1.Idx → Elt F e) (L : List (View.Piece (Elt F) S512x1 e)) :
    v.read (Elt F) (v.writes (Elt F) f ((⟨Rect.unit (s := S512x1) ![0, 0] ![512, 1] inb, w⟩ : View.Piece (Elt F) S512x1 e) :: L)) = w :=
  read_writes_full (S := S512x1) v inb z2 f w L
theorem rw_h {sig : RefSig} {κ : Kind} {sp : Space} {e : EltTy} (v : View sig κ sp S512x10240 e) (inb) (f : v.ty.Contents (Elt F)) (w : S512x10240.Idx → Elt F e) (L : List (View.Piece (Elt F) S512x10240 e)) :
    v.read (Elt F) (v.writes (Elt F) f ((⟨Rect.unit (s := S512x10240) ![0, 0] ![512, 10240] inb, w⟩ : View.Piece (Elt F) S512x10240 e) :: L)) = w :=
  read_writes_full (S := S512x10240) v inb z2 f w L

/-- The store of point `i`'s columns into the scratch, read back. -/
theorem read_upd1 {sig : RefSig} {κ : Kind} {sp : Space} (v : View sig κ sp S512x10240 .f32) (i : grid1.Coords) (f : v.ty.Contents (Elt F))
    (d : Vec F S512x10240 .f32) (hf : v.read (Elt F) f = d) (p : Vec F S512x256 .f32) :
    v.read (Elt F) (v.writes (Elt F) f [(⟨Rect.unit (s := S512x10240) (k1_off1 i) S512x256.size (k1_off1_inb i), p⟩ : View.Piece (Elt F) S512x10240 .f32)]) = upd1 i d p := by
  subst hf
  funext y
  rw [View.read_writes_cons_unit v f (k1_off1_inb i) p [] y rfl]
  rfl

/-! ## The body's runs, one per case of its branches -/

set_option maxHeartbeats 2000000 in
/-- The first column block of a row block: the block goes into the scratch, the running maximum is set. -/
theorem run1_A (c : Dev nD) (i : grid1.Coords) (arg2 : Memref sig .tc .vmem S512x7168 .fp8e4m3) (harg2 : arg2.IsWhole) (arg3 : Memref sig .tc .vmem S512x1 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x10240 .fp8e4m3) (harg8 : arg8.IsWhole) (arg9 : Memref sig .tc .vmem S512x1 .f32) (harg9 : arg9.IsWhole) (arg10 : Memref sig .tc .vmem S512x10240 .f32) (harg10 : arg10.IsWhole) (arg11 : Memref sig .tc .vmem S512x1 .f32) (harg11 : arg11.IsWhole) (hc0 : cond1_0 i) (hc1 : ¬cond1_1 i) (hc2 : ¬cond1_2 i)
    (x0 : Vec F S512x7168 .fp8e4m3) (x1 : Vec F S512x1 .f32) (x2 : Vec F S7168x256 .fp8e4m3) (x3 : Vec F S7168x256 .fp8e4m3) (x4 : Vec F S1x256 .f32) (x5 : Vec F S1x256 .f32) (d10 : Vec F S512x10240 .f32) (d6 : Vec F S512x10240 .fp8e4m3) (d7 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare d7 ∗ owns (c : Thread nD τ) arg10 fullShare d10 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare d7 ∗ owns (c : Thread nD τ) arg10 fullShare (upd1 i d10 (k1_pay7 x0 x1 x2 x3 x4 x5)) ∗ owns (c : Thread nD τ) arg11 fullShare (k1_pay9 x0 x1 x2 x3 x4 x5)) -∗ K ⟨⟩))
      ⊢ wp frame (wpE (defs₀ (F := F)) Variants.none c none) E (cc1__gate_up_kernel i arg2 harg2 arg3 harg3 arg4 harg4 arg5 harg5 arg6 harg6 arg7 harg7 arg8 harg8 arg9 harg9 arg10 harg10 arg11 harg11) K := by
  simp only [cc1__gate_up_kernel_eq_skeleton]; unfold cc1__gate_up_kernel_skel
  simp only [k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro; exact hf6
  isplitl [H7]
  · iexists _; isplitr; swap; · iexact H7
    ipureintro; exact hf7
  isplitl [HS0]
  · iexists _; isplitr; swap; · iexact HS0
    ipureintro
    refine (read_upd1 _ i _ _ (harg10.read_unread _) _).trans ?_
    (try unfold run1_A.sl.r_2); (try unfold run1_A.sl.r_1); (try unfold run1_A.sl.v82); (try unfold run1_A.sl.v41); (try unfold run1_A.sl.HS1_1); (try unfold run1_A.sl.HS0_1); (try unfold run1_A.sl.r); (try unfold run1_A.sl.r); simp only [View.readCov, View.readAt_eq_ld, Memref.IsWhole.read_unread, ld_x, ld_s, ld_w, ld_v, ld_h, rw_s, rw_h, read_upd1 _ i _ _ (harg10.read_unread d10)]
  iexists _; isplitr; swap; · iexact HS1
  ipureintro
  refine (read_writes_full _ _ z2 _ _ _).trans ?_
  (try unfold run1_A.sl.r_2); (try unfold run1_A.sl.r_1); (try unfold run1_A.sl.v82); (try unfold run1_A.sl.v41); (try unfold run1_A.sl.HS1_1); (try unfold run1_A.sl.HS0_1); (try unfold run1_A.sl.r); (try unfold run1_A.sl.r); simp only [View.readCov, View.readAt_eq_ld, Memref.IsWhole.read_unread, ld_x, ld_s, ld_w, ld_v, ld_h, rw_s, rw_h, read_upd1 _ i _ _ (harg10.read_unread d10)]

set_option maxHeartbeats 2000000 in
/-- A middle column block: the block goes into the scratch, the running maximum is raised. -/
theorem run1_B (c : Dev nD) (i : grid1.Coords) (arg2 : Memref sig .tc .vmem S512x7168 .fp8e4m3) (harg2 : arg2.IsWhole) (arg3 : Memref sig .tc .vmem S512x1 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x10240 .fp8e4m3) (harg8 : arg8.IsWhole) (arg9 : Memref sig .tc .vmem S512x1 .f32) (harg9 : arg9.IsWhole) (arg10 : Memref sig .tc .vmem S512x10240 .f32) (harg10 : arg10.IsWhole) (arg11 : Memref sig .tc .vmem S512x1 .f32) (harg11 : arg11.IsWhole) (hc0 : ¬cond1_0 i) (hc1 : cond1_1 i) (hc2 : ¬cond1_2 i)
    (x0 : Vec F S512x7168 .fp8e4m3) (x1 : Vec F S512x1 .f32) (x2 : Vec F S7168x256 .fp8e4m3) (x3 : Vec F S7168x256 .fp8e4m3) (x4 : Vec F S1x256 .f32) (x5 : Vec F S1x256 .f32) (d10 : Vec F S512x10240 .f32) (d6 : Vec F S512x10240 .fp8e4m3) (d7 : Vec F S512x1 .f32) (xs1 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare d7 ∗ owns (c : Thread nD τ) arg10 fullShare d10 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare d7 ∗ owns (c : Thread nD τ) arg10 fullShare (upd1 i d10 (k1_pay7 x0 x1 x2 x3 x4 x5)) ∗ owns (c : Thread nD τ) arg11 fullShare (k1_pay1 (k1_pay8 x0 x1 x2 x3 x4 x5) xs1)) -∗ K ⟨⟩))
      ⊢ wp frame (wpE (defs₀ (F := F)) Variants.none c none) E (cc1__gate_up_kernel i arg2 harg2 arg3 harg3 arg4 harg4 arg5 harg5 arg6 harg6 arg7 harg7 arg8 harg8 arg9 harg9 arg10 harg10 arg11 harg11) K := by
  simp only [cc1__gate_up_kernel_eq_skeleton]; unfold cc1__gate_up_kernel_skel
  simp only [k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro; exact hf6
  isplitl [H7]
  · iexists _; isplitr; swap; · iexact H7
    ipureintro; exact hf7
  isplitl [HS0]
  · iexists _; isplitr; swap; · iexact HS0
    ipureintro
    refine (read_upd1 _ i _ _ (harg10.read_unread _) _).trans ?_
    (try unfold run1_B.sl.r_2); (try unfold run1_B.sl.r_1); (try unfold run1_B.sl.v82); (try unfold run1_B.sl.v41); (try unfold run1_B.sl.HS1_1); (try unfold run1_B.sl.HS0_1); (try unfold run1_B.sl.r); (try unfold run1_B.sl.r); simp only [View.readCov, View.readAt_eq_ld, Memref.IsWhole.read_unread, ld_x, ld_s, ld_w, ld_v, ld_h, rw_s, rw_h, read_upd1 _ i _ _ (harg10.read_unread d10)]
  iexists _; isplitr; swap; · iexact HS1
  ipureintro
  refine (read_writes_full _ _ z2 _ _ _).trans ?_
  (try unfold run1_B.sl.r_2); (try unfold run1_B.sl.r_1); (try unfold run1_B.sl.v82); (try unfold run1_B.sl.v41); (try unfold run1_B.sl.HS1_1); (try unfold run1_B.sl.HS0_1); (try unfold run1_B.sl.r); (try unfold run1_B.sl.r); simp only [View.readCov, View.readAt_eq_ld, Memref.IsWhole.read_unread, ld_x, ld_s, ld_w, ld_v, ld_h, rw_s, rw_h, read_upd1 _ i _ _ (harg10.read_unread d10)]

set_option maxHeartbeats 2000000 in
/-- The last column block: as a middle one, and then the row block is scaled, quantised and stored. -/
theorem run1_C (c : Dev nD) (i : grid1.Coords) (arg2 : Memref sig .tc .vmem S512x7168 .fp8e4m3) (harg2 : arg2.IsWhole) (arg3 : Memref sig .tc .vmem S512x1 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x10240 .fp8e4m3) (harg8 : arg8.IsWhole) (arg9 : Memref sig .tc .vmem S512x1 .f32) (harg9 : arg9.IsWhole) (arg10 : Memref sig .tc .vmem S512x10240 .f32) (harg10 : arg10.IsWhole) (arg11 : Memref sig .tc .vmem S512x1 .f32) (harg11 : arg11.IsWhole) (hc0 : ¬cond1_0 i) (hc1 : cond1_1 i) (hc2 : cond1_2 i)
    (x0 : Vec F S512x7168 .fp8e4m3) (x1 : Vec F S512x1 .f32) (x2 : Vec F S7168x256 .fp8e4m3) (x3 : Vec F S7168x256 .fp8e4m3) (x4 : Vec F S1x256 .f32) (x5 : Vec F S1x256 .f32) (d10 : Vec F S512x10240 .f32) (xs1 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare d10 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k1_pay2 (k1_pay5 (k1_pay1 (k1_pay8 x0 x1 x2 x3 x4 x5) xs1)) (upd1 i d10 (k1_pay7 x0 x1 x2 x3 x4 x5))) ∗ owns (c : Thread nD τ) arg9 fullShare (k1_pay4 (k1_pay1 (k1_pay8 x0 x1 x2 x3 x4 x5) xs1)) ∗ owns (c : Thread nD τ) arg10 fullShare (upd1 i d10 (k1_pay7 x0 x1 x2 x3 x4 x5)) ∗ owns (c : Thread nD τ) arg11 fullShare (k1_pay1 (k1_pay8 x0 x1 x2 x3 x4 x5) xs1)) -∗ K ⟨⟩))
      ⊢ wp frame (wpE (defs₀ (F := F)) Variants.none c none) E (cc1__gate_up_kernel i arg2 harg2 arg3 harg3 arg4 harg4 arg5 harg5 arg6 harg6 arg7 harg7 arg8 harg8 arg9 harg9 arg10 harg10 arg11 harg11) K := by
  simp only [cc1__gate_up_kernel_eq_skeleton]; unfold cc1__gate_up_kernel_skel
  simp only [k1_part2_eq_skeleton, k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    refine (read_writes_full _ _ z2 _ _ _).trans ?_
    (try unfold run1_C.sl.r_2); (try unfold run1_C.sl.r_1); (try unfold run1_C.sl.v82); (try unfold run1_C.sl.v41); (try unfold run1_C.sl.HS1_1); (try unfold run1_C.sl.HS0_1); (try unfold run1_C.sl.r); (try unfold run1_C.sl.r); simp only [View.readCov, View.readAt_eq_ld, Memref.IsWhole.read_unread, ld_x, ld_s, ld_w, ld_v, ld_h, rw_s, rw_h, read_upd1 _ i _ _ (harg10.read_unread d10)]
  isplitl [H7]
  · iexists _; isplitr; swap; · iexact H7
    ipureintro
    refine (read_writes_full _ _ z2 _ _ _).trans ?_
    (try unfold run1_C.sl.r_2); (try unfold run1_C.sl.r_1); (try unfold run1_C.sl.v82); (try unfold run1_C.sl.v41); (try unfold run1_C.sl.HS1_1); (try unfold run1_C.sl.HS0_1); (try unfold run1_C.sl.r); (try unfold run1_C.sl.r); simp only [View.readCov, View.readAt_eq_ld, Memref.IsWhole.read_unread, ld_x, ld_s, ld_w, ld_v, ld_h, rw_s, rw_h, read_upd1 _ i _ _ (harg10.read_unread d10)]
  isplitl [HS0]
  · iexists _; isplitr; swap; · iexact HS0
    ipureintro
    refine (read_upd1 _ i _ _ (harg10.read_unread _) _).trans ?_
    (try unfold run1_C.sl.r_2); (try unfold run1_C.sl.r_1); (try unfold run1_C.sl.v82); (try unfold run1_C.sl.v41); (try unfold run1_C.sl.HS1_1); (try unfold run1_C.sl.HS0_1); (try unfold run1_C.sl.r); (try unfold run1_C.sl.r); simp only [View.readCov, View.readAt_eq_ld, Memref.IsWhole.read_unread, ld_x, ld_s, ld_w, ld_v, ld_h, rw_s, rw_h, read_upd1 _ i _ _ (harg10.read_unread d10)]
  iexists _; isplitr; swap; · iexact HS1
  ipureintro
  refine (read_writes_full _ _ z2 _ _ _).trans ?_
  (try unfold run1_C.sl.r_2); (try unfold run1_C.sl.r_1); (try unfold run1_C.sl.v82); (try unfold run1_C.sl.v41); (try unfold run1_C.sl.HS1_1); (try unfold run1_C.sl.HS0_1); (try unfold run1_C.sl.r); (try unfold run1_C.sl.r); simp only [View.readCov, View.readAt_eq_ld, Memref.IsWhole.read_unread, ld_x, ld_s, ld_w, ld_v, ld_h, rw_s, rw_h, read_upd1 _ i _ _ (harg10.read_unread d10)]

/-! ## The scratch between the points -/

/-- The columns point `i` stores into the scratch start at column 256 times its second coordinate. -/
theorem off1_val : ∀ t : Fin cfg1.N, k1_off1 (grid1.coords t) 0 = 0 ∧ k1_off1 (grid1.coords t) 1 = 256 * (t.val % 40) :=
  (by decide +kernel : ∀ t : Fin grid1.N, k1_off1 (grid1.coords t) 0 = 0 ∧ k1_off1 (grid1.coords t) 1 = 256 * (t.val % 40))

theorem mk240 {n : ℕ} (h : n < 240) : n < cfg1.N := lt_of_lt_of_eq h (show cfg1.N = 240 from N_1).symm
theorem lt240 (t : Fin cfg1.N) : t.val < 240 := lt_of_lt_of_eq t.isLt (show cfg1.N = 240 from N_1)

/-- The scratch operands: whole scoped buffers of the kernel's own. -/
abbrev scM1_0 : Memref sig .tc .vmem S512x10240 .f32 := Memref.whole cc1_scratch0
abbrev scM1_1 : Memref sig .tc .vmem S512x1 .f32 := Memref.whole cc1_scratch1

/-- The block of `h` that point `t` computes. -/
def hblk (c : Dev nD) (t : Fin cfg1.N) : Vec F S512x256 .f32 :=
  k1_pay7 (iblk1 V c 0 t) (iblk1 V c 1 t) (iblk1 V c 2 t) (iblk1 V c 3 t) (iblk1 V c 4 t) (iblk1 V c 5 t)
/-- Its row maxima of magnitudes. -/
def bmx (c : Dev nD) (t : Fin cfg1.N) : Vec F S512x1 .f32 :=
  k1_pay8 (iblk1 V c 0 t) (iblk1 V c 1 t) (iblk1 V c 2 t) (iblk1 V c 3 t) (iblk1 V c 4 t) (iblk1 V c 5 t)
/-- The same as stored at the first column block. -/
def bmx0 (c : Dev nD) (t : Fin cfg1.N) : Vec F S512x1 .f32 :=
  k1_pay9 (iblk1 V c 0 t) (iblk1 V c 1 t) (iblk1 V c 2 t) (iblk1 V c 3 t) (iblk1 V c 4 t) (iblk1 V c 5 t)

/-- The running row maximum after point `n`. -/
def amxN (c : Dev nD) : (n : ℕ) → n < cfg1.N → Vec F S512x1 .f32
  | 0, h => bmx0 V c ⟨0, h⟩
  | n + 1, h => if (n + 1) % 40 = 0 then bmx0 V c ⟨n + 1, h⟩ else k1_pay1 (bmx V c ⟨n + 1, h⟩) (amxN c n (Nat.lt_of_succ_lt h))
abbrev amx (c : Dev nD) (t : Fin cfg1.N) : Vec F S512x1 .f32 := amxN V c t.val t.isLt

theorem amx_first (c : Dev nD) (t : Fin cfg1.N) (h : t.val % 40 = 0) : amx V c t = bmx0 V c t := by
  obtain ⟨n, hn⟩ := t
  cases n with
  | zero => rfl
  | succ n => exact if_pos h
theorem amx_next (c : Dev nD) (t u : Fin cfg1.N) (hu : u.val + 1 = t.val) (h : t.val % 40 ≠ 0) :
    amx V c t = k1_pay1 (bmx V c t) (amx V c u) := by
  obtain ⟨n, hn⟩ := t; obtain ⟨k, hk⟩ := u
  obtain rfl : k + 1 = n := hu
  exact if_neg h

theorem pos256 : ∀ a : Fin 2, 0 < S512x256.size a := by decide

/-- The point of `t`'s row block that computes column `j`. -/
def pt1 (t : Fin cfg1.N) (y : S512x10240.Idx) : Fin cfg1.N := ⟨40 * (t.val / 40) + (y (1 : Fin 2)).val / 256, by
  have h1 : (y (1 : Fin 2)).val < 10240 := (y (1 : Fin 2)).isLt
  have h2 := lt240 t
  exact mk240 (by omega)⟩

theorem pt1_congr (t u : Fin cfg1.N) (y : S512x10240.Idx) (h : t.val / 40 = u.val / 40) : pt1 t y = pt1 u y :=
  Fin.ext (by unfold pt1; show 40 * (t.val / 40) + _ = 40 * (u.val / 40) + _; rw [h])

/-- The place of an index of the row block within its column block. -/
def loc1 (y : S512x10240.Idx) : S512x256.Idx := fun a => ⟨(y a).val % S512x256.size a, Nat.mod_lt _ (pos256 a)⟩

/-- The row block of `h` that point `t` lies in, whole. -/
def hrow (c : Dev nD) (t : Fin cfg1.N) : Vec F S512x10240 .f32 := fun y => hblk V c (pt1 t y) (loc1 y)

theorem hrow_congr (c : Dev nD) (t u : Fin cfg1.N) (h : t.val / 40 = u.val / 40) : hrow V c t = hrow V c u := by
  funext y
  unfold hrow
  rw [pt1_congr t u _ h]

/-- What the scratch holds before point `n`: after point `n - 1`, the columns so far and their row maxima. -/
def Inv1 (c : Dev nD) (n : ℕ) (d10 : Vec F S512x10240 .f32) (d11 : Vec F S512x1 .f32) : Prop :=
  ∀ t : Fin cfg1.N, t.val + 1 = n →
    (∀ y : S512x10240.Idx, (y (1 : Fin 2)).val < 256 * (t.val % 40 + 1) → d10 y = hrow V c t y) ∧ d11 = amx V c t

/-- Storing point `t`'s columns over the earlier ones. -/
theorem upd1_hrow (c : Dev nD) (t : Fin cfg1.N) (d10 : Vec F S512x10240 .f32)
    (hd : ∀ y : S512x10240.Idx, (y (1 : Fin 2)).val < 256 * (t.val % 40) → d10 y = hrow V c t y)
    (y : S512x10240.Idx) (hy : (y (1 : Fin 2)).val < 256 * (t.val % 40 + 1)) :
    upd1 (grid1.coords t) d10 (hblk V c t) y = hrow V c t y := by
  obtain ⟨o0, o1⟩ := off1_val t
  have y0 : (y (0 : Fin 2)).val < 512 := (y (0 : Fin 2)).isLt
  unfold upd1
  by_cases h : ∀ a : Fin 2, k1_off1 (grid1.coords t) a ≤ (y a).val ∧ (y a).val < k1_off1 (grid1.coords t) a + S512x256.size a
  · rw [dif_pos h]
    have h1 := (h 1).1; rw [o1] at h1
    unfold hrow
    have e : pt1 t y = t :=
      Fin.ext (by unfold pt1; show 40 * (t.val / 40) + (y (1 : Fin 2)).val / 256 = t.val; omega)
    rw [e]
    refine congrArg (hblk V c t) (funext fun a => Fin.ext ?_)
    rw [Rect.unitLocal_val]
    revert a
    refine Fin.forall_fin_two.mpr ⟨?_, ?_⟩
    · show (y (0 : Fin 2)).val - k1_off1 (grid1.coords t) 0 = (y (0 : Fin 2)).val % 512
      rw [o0]; omega
    · show (y (1 : Fin 2)).val - k1_off1 (grid1.coords t) 1 = (y (1 : Fin 2)).val % 256
      rw [o1]; omega
  · rw [dif_neg h]
    refine hd y ?_
    by_contra hc
    refine h (Fin.forall_fin_two.mpr ⟨?_, ?_⟩)
    · rw [o0]; exact ⟨Nat.zero_le _, by show (y (0 : Fin 2)).val < 0 + 512; omega⟩
    · rw [o1]; exact ⟨by omega, by show (y (1 : Fin 2)).val < 256 * (t.val % 40) + 256; omega⟩

/-- Before a point that is not the first of its row block, the scratch holds the earlier columns. -/
theorem Inv1.cols {c : Dev nD} {t : Fin cfg1.N} {d10 : Vec F S512x10240 .f32} {d11 : Vec F S512x1 .f32} (h : Inv1 V c t.val d10 d11) :
    ∀ y : S512x10240.Idx, (y (1 : Fin 2)).val < 256 * (t.val % 40) → d10 y = hrow V c t y := fun y hy => by
  by_cases h0 : t.val % 40 = 0
  · exfalso; omega
  · have hN := lt240 t
    let u : Fin cfg1.N := ⟨t.val - 1, mk240 (by omega)⟩
    have hu : u.val + 1 = t.val := by show t.val - 1 + 1 = t.val; omega
    rw [hrow_congr V c t u (by omega)]
    exact (h u hu).1 y (by omega)

/-- What the point leaves is the invariant after it: first column block; -/
theorem Inv1.first {c : Dev nD} {t : Fin cfg1.N} {d10 : Vec F S512x10240 .f32} {d11 : Vec F S512x1 .f32} (h : Inv1 V c t.val d10 d11)
    (h0 : t.val % 40 = 0) : Inv1 V c (t.val + 1) (upd1 (grid1.coords t) d10 (hblk V c t)) (bmx0 V c t) := fun u hu => by
  obtain rfl : u = t := Fin.ext (by omega)
  exact ⟨fun y hy => upd1_hrow V c u d10 h.cols y hy, (amx_first V c u h0).symm⟩
/-- later column blocks. -/
theorem Inv1.next {c : Dev nD} {t : Fin cfg1.N} {d10 : Vec F S512x10240 .f32} {d11 : Vec F S512x1 .f32} (h : Inv1 V c t.val d10 d11)
    (h0 : t.val % 40 ≠ 0) : Inv1 V c (t.val + 1) (upd1 (grid1.coords t) d10 (hblk V c t)) (k1_pay1 (bmx V c t) d11)
      ∧ k1_pay1 (bmx V c t) d11 = amx V c t := by
  have hN := lt240 t
  let u : Fin cfg1.N := ⟨t.val - 1, mk240 (by omega)⟩
  have hu : u.val + 1 = t.val := by show t.val - 1 + 1 = t.val; omega
  have e : k1_pay1 (bmx V c t) d11 = amx V c t := by rw [amx_next V c t u hu h0, (h u hu).2]
  refine ⟨fun v hv => ?_, e⟩
  obtain rfl : v = t := Fin.ext (by omega)
  exact ⟨fun y hy => upd1_hrow V c v d10 h.cols y hy, e⟩
/-- At the last column block the scratch is the whole row block. -/
theorem Inv1.last {c : Dev nD} {t : Fin cfg1.N} {d10 : Vec F S512x10240 .f32} {d11 : Vec F S512x1 .f32} (h : Inv1 V c t.val d10 d11)
    (h0 : t.val % 40 = 39) : upd1 (grid1.coords t) d10 (hblk V c t) = hrow V c t :=
  funext fun y => upd1_hrow V c t d10 h.cols y (by have h1 : (y (1 : Fin 2)).val < 10240 := (y (1 : Fin 2)).isLt; omega)

/-- The first call's staging buffers, which this call leaves alone. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The invariant before point `n`. -/
def PhiS1 (c : Dev nD) (n : ℕ) : sProp 𝕄 :=
  iprop(∃ d10, ∃ d11, ⌜Inv1 V c n d10 d11⌝ ∗ owns (c : Thread nD τ) scM1_0 fullShare d10 ∗ owns (c : Thread nD τ) scM1_1 fullShare d11 ∗ Rest1 c ∗ (∃ r, prngReg c r))

theorem PhiS1_in (c : Dev nD) : (Pipeline.ΦA spec1 c : sProp 𝕄) ⊢ PhiS1 V c 0 := by
  unfold Pipeline.ΦA PhiS1 Rest1; rw [scopedRest1_eq]; simp only [scM1_0, scM1_1, owns_whole]
  iintro ⟨⟨H0, H1, H2, H3, H4, H5, ⟨%a, HA⟩, ⟨%b, HB⟩⟩, Hp⟩
  iexists a, b
  isplitr
  · ipureintro; intro t ht; exact absurd ht (Nat.succ_ne_zero _)
  isplitl [HA]; · iexact HA
  isplitl [HB]; · iexact HB
  isplitl [H0 H1 H2 H3 H4 H5]
  · isplitl [H0]; · iexact H0
    isplitl [H1]; · iexact H1
    isplitl [H2]; · iexact H2
    isplitl [H3]; · iexact H3
    isplitl [H4]; · iexact H4
    iexact H5
  iexact Hp

theorem PhiS1_out (c : Dev nD) (n : ℕ) : PhiS1 V c n ⊢ (Pipeline.ΦA spec1 c : sProp 𝕄) := by
  unfold Pipeline.ΦA PhiS1 Rest1; rw [scopedRest1_eq]; simp only [scM1_0, scM1_1, owns_whole]
  iintro ⟨%a, %b, -, HA, HB, ⟨H0, H1, H2, H3, H4, H5⟩, Hp⟩
  isplitr [Hp]
  · isplitl [H0]; · iexact H0
    isplitl [H1]; · iexact H1
    isplitl [H2]; · iexact H2
    isplitl [H3]; · iexact H3
    isplitl [H4]; · iexact H4
    isplitl [H5]; · iexact H5
    isplitl [HA]; · iexists a; iexact HA
    iexists b; iexact HB
  iexact Hp

/-! ## The pipeline's proof data -/

/-- The codes and the scales a row block ends with. -/
def out1_6 (c : Dev nD) (t : Fin cfg1.N) : Vec F S512x10240 .fp8e4m3 := k1_pay2 (k1_pay5 (amx V c t)) (hrow V c t)
def out1_7 (c : Dev nD) (t : Fin cfg1.N) : Vec F S512x1 .f32 := k1_pay4 (amx V c t)

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 V c t
    | ⟨7, _⟩ => out1_7 V c t
  Φ t := PhiS1 V c t.val
  q w := Pipeline.shareOf spec1 w
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 V c t := by dsimp only [dat1]
theorem after1_7 (c : Dev nD) (t : Fin cfg1.N) : (dat1 V c).after 7 t = out1_7 V c t := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

theorem idleAt1_6 (t : Fin cfg1.N) (h : ¬cond1_2 (grid1.coords t)) : cfg1.idle 6 (cfg1.grid.coords t) = true := by
  show (!(k1_cond3 (grid1.coords t) == 1#1)) = true
  simpa using h
theorem idleAt1_7 (t : Fin cfg1.N) (h : ¬cond1_2 (grid1.coords t)) : cfg1.idle 7 (cfg1.grid.coords t) = true := by
  show (!(k1_cond3 (grid1.coords t) == 1#1)) = true
  simpa using h
theorem liveAt1_6 (t : Fin cfg1.N) (h : cond1_2 (grid1.coords t)) : cfg1.idle 6 (cfg1.grid.coords t) = false := by
  show (!(k1_cond3 (grid1.coords t) == 1#1)) = false
  simpa using h
theorem liveAt1_7 (t : Fin cfg1.N) (h : cond1_2 (grid1.coords t)) : cfg1.idle 7 (cfg1.grid.coords t) = false := by
  show (!(k1_cond3 (grid1.coords t) == 1#1)) = false
  simpa using h
theorem noflush1_6 (t : Fin cfg1.N) (h : t.val % 40 ≠ 39) : (cfg1.win 6).flush t = false := Bool.eq_false_iff.mpr fun e => h ((flush1_6 t).mp e)
theorem noflush1_7 (t : Fin cfg1.N) (h : t.val % 40 ≠ 39) : (cfg1.win 7).flush t = false := Bool.eq_false_iff.mpr fun e => h ((flush1_7 t).mp e)

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ (dat1 V c).leavesExact 6 t
    ∗ (dat1 V c).leavesExact 7 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = PhiS1 V c (t.val + 1) from rfl, show (dat1 V c).Φ t.castSucc = PhiS1 V c t.val from rfl,
    show (dat1 V c).owesAt () t.succ = (dat1 V c).owesAt () t.castSucc from rfl,
    after1_0, after1_1, after1_2, after1_3, after1_4, after1_5]
  unfold PhiS1
  have hN := lt240 t
  by_cases h0 : t.val % 40 = 0
  · have c0 := (hcond1_0 t).mpr h0
    have c1 : ¬cond1_1 (grid1.coords t) := fun h => by have := (hcond1_1 t).mp h; omega
    have c2 : ¬cond1_2 (grid1.coords t) := fun h => by have := (hcond1_2 t).mp h; omega
    rw [Dat.leavesExact_idle _ 6 t (idleAt1_6 t c2) (noflush1_6 t (by omega)), Dat.leavesExact_idle _ 7 t (idleAt1_7 t c2) (noflush1_7 t (by omega))]
    iintro ⟨⟨%d10, %d11, %hI, HS0, HS1, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run1_A c (grid1.coords t) _ _ _ _ _ _ _ _ _ _ _ _ _ _ _ _ _ _ _ _ c0 c1 c2 (iblk1 V c 0 t) (iblk1 V c 1 t) (iblk1 V c 2 t) (iblk1 V c 3 t) (iblk1 V c 4 t) (iblk1 V c 5 t) d10 ((dat1 V c).before 6 t d6) ((dat1 V c).before 7 t d7) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexists _; iexact HS1
    iintro ⟨H0, H1, H2, H3, H4, H5, H6, H7, HS0, HS1⟩
    isplitl [HS0 HS1 Hr Hg]
    · iexists _, _
      isplitr; · ipureintro; exact hI.first V h0
      isplitl [HS0]; · iexact HS0
      isplitl [HS1]; · iexact HS1
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    iexists d7; iexact H7
  · have c0 : ¬cond1_0 (grid1.coords t) := fun h => h0 ((hcond1_0 t).mp h)
    have c1 := (hcond1_1 t).mpr (by omega)
    by_cases h2 : t.val % 40 = 39
    · have c2 := (hcond1_2 t).mpr h2
      rw [show (dat1 V c).leavesExact 6 t = owns (c : Thread nD τ) (st1_6 t) fullShare ((dat1 V c).after 6 t) from by
          unfold Dat.leavesExact; rw [liveAt1_6 t c2],
        show (dat1 V c).leavesExact 7 t = owns (c : Thread nD τ) (st1_7 t) fullShare ((dat1 V c).after 7 t) from by
          unfold Dat.leavesExact; rw [liveAt1_7 t c2], after1_6, after1_7]
      iintro ⟨⟨%d10, %d11, %hI, HS0, HS1, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      have hn := hI.next V h0
      have hl := hI.last V h2
      unfold out1_6 out1_7
      rw [← hn.2, ← hl]
      iapply (run1_C c (grid1.coords t) _ _ _ _ _ _ _ _ _ _ _ _ _ _ _ _ _ _ _ _ c0 c1 c2 (iblk1 V c 0 t) (iblk1 V c 1 t) (iblk1 V c 2 t) (iblk1 V c 3 t) (iblk1 V c 4 t) (iblk1 V c 5 t) d10 d11 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hr Hg]
      · iexists _, _
        isplitr; · ipureintro; exact hn.1
        isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have c2 : ¬cond1_2 (grid1.coords t) := fun h => h2 ((hcond1_2 t).mp h)
      rw [Dat.leavesExact_idle _ 6 t (idleAt1_6 t c2) (noflush1_6 t h2), Dat.leavesExact_idle _ 7 t (idleAt1_7 t c2) (noflush1_7 t h2)]
      iintro ⟨⟨%d10, %d11, %hI, HS0, HS1, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_B c (grid1.coords t) _ _ _ _ _ _ _ _ _ _ _ _ _ _ _ _ _ _ _ _ c0 c1 c2 (iblk1 V c 0 t) (iblk1 V c 1 t) (iblk1 V c 2 t) (iblk1 V c 3 t) (iblk1 V c 4 t) (iblk1 V c 5 t) d10 ((dat1 V c).before 6 t d6) ((dat1 V c).before 7 t d7) d11 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hr Hg]
      · iexists _, _
        isplitr; · ipureintro; exact (hI.next V h0).1
        isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists d6; iexact H6
      iexists d7; iexact H7

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Run

end
-- ==== Proof.Ideal.Run.lean ====
/-
  The kernel's run: the two pallas_calls among the host's reshapes, as segments, for any float values.
-/
module

public import proofs.«01_k».proof.Proof.Ideal.Region0
public import proofs.«01_k».proof.Proof.Ideal.Region1
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v4, main_v5, main_v6, main_v7]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (A_eq1 (V3 m ρ) c) w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = PhiS1 (V3 m ρ) c 0 from rfl]
    iintro ⟨Hp, -, Hr⟩
    iapply (PhiS1_in (V3 m ρ) c)
    unfold Pipeline.ΦA
    isplitl [Hr]; · iexact Hr
    iexact Hp
  hout c := by
    rw [Pipeline.ownSems0_none, show (pdats m ρ 1 c).Φ (Fin.last _) = PhiS1 (V3 m ρ) c cfg1.N from rfl]
    iintro H
    ihave H := (PhiS1_out (V3 m ρ) c cfg1.N) $$ H
    unfold Pipeline.ΦA
    icases H with ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole run, at any float values: every weakly fair execution of @main terminates without fault, and every final
    state has every unscoped TensorCore buffer at the last boundary's contents and every semaphore counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c)⟩, h.2⟩) (run m ρ)

end Cert.KernelIdeal.Run

end
-- ==== Proof.Ideal.Scale.lean ====
/-
  The power-of-two scale of a row, as numbers. The kernel finds the exponent by counting the powers of two that do not
  exceed the row's largest magnitude over 448, and multiplies by the reciprocal power; the reference takes the least
  power of two above it out of a table, and divides. Over the extended reals the two are the same scale and the same
  quotient.
-/
module

public import Idealize.ShloMosaic.PureOps.Ideal.Laws
public import Idealize.ShloMosaic.Lib.IndicatorCount

@[expose] public section

noncomputable section

namespace Cert.Scale

open Idealize.ShloMosaic

/-- The number of the f32 word whose exponent field is `k` and whose other bits are zero. -/
def pw (k : ℕ) : EReal := Ideal.ofBits .f32 (IntOp.shli .vector (BitVec.ofNat 32 k) 23#32)

theorem fields : ∀ k : Fin 256,
    ((IntOp.shli .vector (BitVec.ofNat 32 k.val) 23#32).extractLsb' (8 + 23) 1 == 1#1) = false
      ∧ ((IntOp.shli .vector (BitVec.ofNat 32 k.val) 23#32).extractLsb' 23 8).toNat = k.val
      ∧ ((IntOp.shli .vector (BitVec.ofNat 32 k.val) 23#32).extractLsb' 0 23).toNat = 0 := by decide +kernel

theorem pw_top : pw 255 = ⊤ := by
  obtain ⟨h1, h2, h3⟩ := fields ⟨255, by decide⟩
  simp only [] at h1 h2 h3
  unfold pw Ideal.ofBits Ideal.ieee
  simp only [h1, h2, h3]
  norm_num

theorem pw_zero : pw 0 = 0 := by
  obtain ⟨h1, h2, h3⟩ := fields ⟨0, by decide⟩
  simp only [] at h1 h2 h3
  unfold pw Ideal.ofBits Ideal.ieee
  simp only [h1, h2, h3]
  norm_num

theorem zpow_shift (k : ℕ) : ((1 : ℝ) * ((2 ^ 23 + 0 : ℕ) : ℝ)) * (2 : ℝ) ^ ((k : ℤ) - (2 ^ (8 - 1) - 1) - ((23 : ℕ) : ℤ)) = (2 : ℝ) ^ ((k : ℤ) - 127) := by
  have e : ((k : ℤ) - 127) = 23 + ((k : ℤ) - (2 ^ (8 - 1) - 1) - ((23 : ℕ) : ℤ)) := by push_cast; ring
  have e2 : ((2 ^ 23 + 0 : ℕ) : ℝ) = (2 : ℝ) ^ (23 : ℤ) := by norm_num
  rw [e, zpow_add₀ (by norm_num : (2 : ℝ) ≠ 0), e2, one_mul]

theorem pw_norm (k : ℕ) (h0 : 1 ≤ k) (h1 : k ≤ 254) : pw k = (((2 : ℝ) ^ ((k : ℤ) - 127) : ℝ) : EReal) := by
  obtain ⟨f1, f2, f3⟩ := fields ⟨k, by omega⟩
  simp only [] at f1 f2 f3
  unfold pw Ideal.ofBits Ideal.ieee
  simp only [f1, f2, f3]
  have a1 : ¬ (k = 2 ^ 8 - 1) := by omega
  have a2 : ¬ (k = 0) := by omega
  rw [if_neg a1, if_neg a2, if_neg Bool.false_ne_true, zpow_shift]

theorem two_zpow_le {a b : ℤ} (h : a ≤ b) : ((2 : ℝ) ^ a) ≤ 2 ^ b := zpow_le_zpow_right₀ (by norm_num) h

theorem pw_mono {j k : ℕ} (h : j ≤ k) (hk : k ≤ 255) : pw j ≤ pw k := by
  rcases Nat.eq_zero_or_pos j with rfl | hj
  · rw [pw_zero]
    rcases Nat.eq_zero_or_pos k with rfl | hk0
    · rw [pw_zero]
    · by_cases h5 : k = 255
      · subst h5; rw [pw_top]; exact le_top
      · rw [pw_norm k hk0 (by omega)]
        exact_mod_cast (by positivity : (0 : ℝ) ≤ (2 : ℝ) ^ ((k : ℤ) - 127))
  · by_cases h5 : k = 255
    · subst h5; rw [pw_top]; exact le_top
    · rw [pw_norm k (by omega) (by omega), pw_norm j hj (by omega)]
      exact EReal.coe_le_coe_iff.2 (two_zpow_le (sub_le_sub_right (Int.ofNat_le.2 h) 127))

/-- How many of the 256 exponent words do not exceed `y`. -/
def cnt (y : EReal) : ℕ := (Finset.univ.filter fun k : Fin 256 => pw k.val ≤ y).card

/-- For a non-negative `y` the words that do not exceed it are the first `cnt y`. -/
theorem cnt_spec {y : EReal} (hy : 0 ≤ y) : ∃ m : ℕ, cnt y = m ∧ 1 ≤ m ∧ m ≤ 256 ∧ pw (m - 1) ≤ y ∧ (m < 256 → y < pw m) := by
  classical
  have hex : ∃ m : ℕ, m = 256 ∨ y < pw m := ⟨256, Or.inl rfl⟩
  set m := Nat.find hex with hm
  have hm256 : m ≤ 256 := Nat.find_min' hex (Or.inl rfl)
  have hlow : ∀ k, k < m → pw k ≤ y := fun k hk => by
    have := Nat.find_min hex hk
    rw [not_or] at this
    exact not_lt.1 this.2
  have hup : m < 256 → y < pw m := fun h => by
    rcases Nat.find_spec hex with h' | h'
    · exact absurd h' (by omega)
    · exact h'
  have h1 : 1 ≤ m := by
    by_contra hc
    have e : m = 0 := by omega
    have := hup (by omega)
    rw [e, pw_zero] at this
    exact absurd hy (not_le.2 this)
  refine ⟨m, ?_, h1, hm256, hlow _ (by omega), hup⟩
  have e : (Finset.univ.filter fun k : Fin 256 => pw k.val ≤ y) = Finset.univ.filter fun k : Fin 256 => k.val < m := by
    ext k
    simp only [Finset.mem_filter, Finset.mem_univ, true_and]
    constructor
    · intro hk
      by_contra hc
      have hmk : m ≤ k.val := by omega
      have := hup (by omega)
      exact absurd (lt_of_lt_of_le this (pw_mono hmk (by omega))) (not_lt.2 hk)
    · exact hlow _
  unfold cnt
  rw [e, Fin.card_filter_val_lt]
  omega

/-- The exponent word from the count. -/
def kw (n : BitVec 32) : BitVec 32 :=
  Scalar.select (IntOp.ori (IntOp.cmpi .sle n 1#32) (IntOp.cmpi .eq n 256#32)) 0#32 (IntOp.subi (IntOp.minsi n 253#32) 127#32)

/-- The kernel's constant, `1/448` rounded to f32. -/
abbrev c448 : EReal := Ideal.ofBits .f32 0x3B124925#32

/-- The kernel's exponent of a row whose largest magnitude is `a`. -/
def kexp (a : EReal) : BitVec 32 :=
  Scalar.select (Ideal.cmp .oeq a (Ideal.ofBits .f32 0x00000000#32)) 0#32 (kw (BitVec.ofNat 32 (cnt (a * c448))))

/-- The kernel's scale. -/
def kscale (a : EReal) : EReal := Ideal.ofBits .f32 (IntOp.shli .vector (IntOp.addi (kexp a) 127#32) 23#32)
/-- The kernel's reciprocal scale. -/
def kinv (a : EReal) : EReal := Ideal.ofBits .f32 (IntOp.shli .vector (IntOp.addi (IntOp.subi 0#32 (kexp a)) 127#32) 23#32)

/-- The reference's table of powers of two. -/
def rt (k : ℕ) : EReal := Ideal.exp2 (((((IntOp.subi (BitVec.ofNat 32 k) 125#32).toInt : ℝ)) : EReal))

/-- The reference's scale of a row whose largest magnitude is `a`. -/
def rscale (a : EReal) : EReal :=
  Scalar.select (IntOp.ori (Ideal.cmp .olt (a * c448) (Ideal.ofBits .f32 0x00800000#32)) (Ideal.cmp .oeq (a * c448) (Ideal.ofBits .f32 0x7F800000#32)))
    (Ideal.ofBits .f32 0x3F800000#32)
    ((Finset.univ : Finset (Fin 252)).fold min (Ideal.ofBits .f32 0x7F800000#32) fun k =>
      Scalar.select (Ideal.cmp .olt (a * c448) (rt k.val)) (rt k.val) (Ideal.ofBits .f32 0x7E800000#32))

/-- The exponent field of the scale for a count of `m`. -/
def fld (m : ℕ) : ℕ := if m ≤ 1 ∨ m = 256 then 127 else min m 253

theorem kw_fld : ∀ m : Fin 257, IntOp.addi (kw (BitVec.ofNat 32 m.val)) 127#32 = BitVec.ofNat 32 (fld m.val)
    ∧ IntOp.addi (IntOp.subi 0#32 (kw (BitVec.ofNat 32 m.val))) 127#32 = BitVec.ofNat 32 (254 - fld m.val) := by decide +kernel

theorem rt_int : ∀ k : Fin 252, (IntOp.subi (BitVec.ofNat 32 k.val) 125#32).toInt = (k.val : ℤ) - 125 := by decide +kernel

theorem rt_eq (k : Fin 252) : rt k.val = (((2 : ℝ) ^ ((k.val : ℤ) - 125) : ℝ) : EReal) := by
  unfold rt
  rw [rt_int k, Ideal.exp2_coe]
  congr 1
  show (2 : ℝ) ^ (((((k.val : ℤ) - 125 : ℤ)) : ℝ)) = _
  rw [Real.rpow_intCast]

theorem w_zero : Ideal.ofBits .f32 0x00000000#32 = (0 : EReal) := by simp [Ideal.ofBits, Ideal.ieee]
theorem w_inf : Ideal.ofBits .f32 0x7F800000#32 = (⊤ : EReal) := by simp [Ideal.ofBits, Ideal.ieee]
theorem w_ninf : Ideal.ofBits .f32 0xFF800000#32 = (⊥ : EReal) := by simp [Ideal.ofBits, Ideal.ieee]
theorem w_one : Ideal.ofBits .f32 0x3F800000#32 = pw 127 := rfl
theorem w_tiny : Ideal.ofBits .f32 0x00800000#32 = pw 1 := rfl
theorem w_huge : Ideal.ofBits .f32 0x7E800000#32 = pw 253 := rfl

theorem c448_nonneg : (0 : EReal) ≤ c448 := by
  have f1 : ((0x3B124925#32 : BitVec 32).extractLsb' (8 + 23) 1 == 1#1) = false := by decide +kernel
  have f2 : ((0x3B124925#32 : BitVec 32).extractLsb' 23 8).toNat = 118 := by decide +kernel
  have f3 : ((0x3B124925#32 : BitVec 32).extractLsb' 0 23).toNat = 1198373 := by decide +kernel
  unfold c448 Ideal.ofBits Ideal.ieee
  simp only [f1, f2, f3]
  rw [if_neg (by decide), if_neg (by decide)]
  refine EReal.coe_nonneg.2 (mul_nonneg (mul_nonneg ?_ ?_) ?_)
  · norm_num
  · positivity
  · positivity

theorem sel_cmp_lt {α : Type} (x y : EReal) (p q : α) : Scalar.select (Ideal.cmp .olt x y) p q = if x < y then p else q := by
  unfold Scalar.select Ideal.cmp
  by_cases h : x < y <;> simp [h]

theorem sel_cmp_eq {α : Type} (x y : EReal) (p q : α) : Scalar.select (Ideal.cmp .oeq x y) p q = if x = y then p else q := by
  unfold Scalar.select Ideal.cmp
  by_cases h : x = y <;> simp [h]

theorem sel_or {α : Type} (x y z : EReal) (p q : α) :
    Scalar.select (IntOp.ori (Ideal.cmp .olt x y) (Ideal.cmp .oeq x z)) p q = if x < y ∨ x = z then p else q := by
  unfold Scalar.select Ideal.cmp IntOp.ori
  have e0 : (BitVec.ofBool true ||| BitVec.ofBool true : BitVec 1) = 1 := by decide
  have e1 : (BitVec.ofBool true ||| BitVec.ofBool false : BitVec 1) = 1 := by decide
  have e2 : (BitVec.ofBool false ||| BitVec.ofBool true : BitVec 1) = 1 := by decide
  have e3 : ¬ ((BitVec.ofBool false ||| BitVec.ofBool false : BitVec 1) = 1) := by decide
  by_cases h : x < y <;> by_cases h' : x = z
  · simp only [decide_eq_true h, decide_eq_true h']; rw [if_pos e0, if_pos (Or.inl h)]
  · simp only [decide_eq_true h, decide_eq_false h']; rw [if_pos e1, if_pos (Or.inl h)]
  · simp only [decide_eq_false h, decide_eq_true h']; rw [if_pos e2, if_pos (Or.inr h')]
  · simp only [decide_eq_false h, decide_eq_false h']; rw [if_neg e3, if_neg (by rintro (h1 | h1); exacts [h h1, h' h1])]

theorem kexp_eq {a : EReal} (ha : 0 ≤ a) : kexp a = kw (BitVec.ofNat 32 (cnt (a * c448))) := by
  unfold kexp
  rw [sel_cmp_eq, w_zero]
  split
  · rename_i h
    subst h
    obtain ⟨m, hm, h1, h2, h3, h4⟩ := cnt_spec (y := 0 * c448) (by rw [zero_mul])
    have : m = 1 := by
      by_contra hc
      rw [zero_mul] at h3
      by_cases h5 : m = 256
      · subst h5
        rw [show (256 - 1 : ℕ) = 255 from rfl, pw_top] at h3
        simp at h3
      · rw [pw_norm _ (by omega) (by omega)] at h3
        have h6 : (2 : ℝ) ^ (((m - 1 : ℕ) : ℤ) - 127) ≤ 0 := by exact_mod_cast h3
        exact absurd h6 (not_le.2 (by positivity))
    rw [hm, this]
    decide
  · rfl

theorem fld_bd (m : ℕ) (h : 1 ≤ m) : 2 ≤ fld m ∧ fld m ≤ 253 := by
  unfold fld; split <;> omega

theorem kscale_eq {a : EReal} (ha : 0 ≤ a) : kscale a = pw (fld (cnt (a * c448))) ∧ kinv a = pw (254 - fld (cnt (a * c448))) := by
  obtain ⟨m, hm, h1, h2, -, -⟩ := cnt_spec (y := a * c448) (mul_nonneg ha c448_nonneg)
  unfold kscale kinv pw
  rw [kexp_eq ha, hm]
  obtain ⟨e1, e2⟩ := kw_fld ⟨m, by omega⟩
  exact ⟨by rw [e1], by rw [e2]⟩

theorem rscale_eq {a : EReal} (ha : 0 ≤ a) : rscale a = pw (fld (cnt (a * c448))) := by
  obtain ⟨m, hm, h1, h2, h3, h4⟩ := cnt_spec (y := a * c448) (mul_nonneg ha c448_nonneg)
  unfold rscale
  rw [sel_or, hm, w_tiny, w_inf, w_one]
  by_cases hs : a * c448 < pw 1 ∨ a * c448 = ⊤
  · rw [if_pos hs]
    have : fld m = 127 := by
      unfold fld
      rw [if_pos]
      rcases hs with h | h
      · left
        by_contra hc
        exact absurd (lt_of_le_of_lt (le_trans (pw_mono (by omega : 1 ≤ m - 1) (by omega)) h3) h) (lt_irrefl _)
      · right
        by_contra hc
        have := h4 (by omega)
        rw [h] at this
        exact absurd this not_top_lt
    rw [this]
  · rw [if_neg hs]
    rw [not_or, not_lt] at hs
    obtain ⟨hs1, hs2⟩ := hs
    have hm2 : 2 ≤ m := by
      by_contra hc
      have e : m = 1 := by omega
      rw [e] at h4
      exact absurd (h4 (by omega)) (not_lt.2 hs1)
    have hm255 : m ≤ 255 := by
      by_contra hc
      have e : m = 256 := by omega
      rw [e, show (256 - 1 : ℕ) = 255 from rfl, pw_top] at h3
      exact hs2 (top_le_iff.1 h3)
    have hf : fld m = min m 253 := by
      unfold fld; rw [if_neg (by omega)]
    have rtpw : ∀ k : Fin 252, rt k.val = pw (k.val + 2) := fun k => by
      rw [rt_eq, pw_norm _ (by omega) (by omega)]
      congr 2
      push_cast; ring
    rw [hf, w_huge]
    apply le_antisymm
    · by_cases h253 : m ≤ 253
      · rw [min_eq_left h253]
        rw [Finset.fold_min_le]
        right
        refine ⟨⟨m - 2, by omega⟩, Finset.mem_univ _, ?_⟩
        rw [rtpw, sel_cmp_lt]
        simp only []
        rw [show m - 2 + 2 = m by omega, if_pos (h4 (by omega))]
      · rw [min_eq_right (by omega)]
        rw [Finset.fold_min_le]
        right
        refine ⟨⟨0, by omega⟩, Finset.mem_univ _, ?_⟩
        rw [rtpw, sel_cmp_lt]
        split
        · exact pw_mono (by simp) (by omega)
        · exact le_rfl
    · rw [Finset.le_fold_min]
      refine ⟨le_top, fun k _ => ?_⟩
      rw [rtpw, sel_cmp_lt]
      split
      · rename_i hlt
        have hk : m ≤ k.val + 2 := by
          by_contra hc
          exact absurd (lt_of_le_of_lt (le_trans (pw_mono (by omega : k.val + 2 ≤ m - 1) (by omega)) h3) hlt) (lt_irrefl _)
        exact pw_mono (by omega) (by omega)
      · exact pw_mono (by omega) (by omega)

/-- The two scales are one. -/
theorem kscale_eq_rscale {a : EReal} (ha : 0 ≤ a) : kscale a = rscale a := by rw [(kscale_eq ha).1, rscale_eq ha]

/-- Multiplying by the kernel's reciprocal is dividing by the reference's scale. -/
theorem mul_kinv {a : EReal} (ha : 0 ≤ a) (v : EReal) : v * kinv a = Ideal.div v (rscale a) := by
  obtain ⟨m, hm, h1, h2, -, -⟩ := cnt_spec (y := a * c448) (mul_nonneg ha c448_nonneg)
  rw [(kscale_eq ha).2, rscale_eq ha, hm]
  obtain ⟨b1, b2⟩ := fld_bd m h1
  rw [pw_norm (fld m) (by omega) (by omega), Ideal.div_coe (by positivity), pw_norm (254 - fld m) (by omega) (by omega)]
  congr 2
  rw [one_div, ← zpow_neg]
  congr 1
  omega

end Cert.Scale
-- ==== Proof.Ideal.Read.lean ====
/-
  The printed quantiser expressions read at an index, for any number of rows and columns: the row maximum, the count of
  exponent words, the table of powers of two, the product with a scale column and a scale row.
-/
module

public import proofs.«01_k».proof.Proof.Ideal.Scale
public import Idealize.ShloMosaic.Lib.ValueLayout
public import Idealize.ShloMosaic.Lib.ValueLayoutCasts
public import Idealize.ShloMosaic.Lib.MatmulPlain

@[expose] public section

noncomputable section

namespace Cert.Read

open Idealize.ShloMosaic Idealize.ShloMosaic.ValueIdx Cert.Scale

variable {M K : ℕ}

/-- The largest magnitude of a row, from minus infinity. -/
def amax (f : Fin K → EReal) : EReal :=
  (Finset.univ : Finset (Fin K)).fold max (Ideal.ofBits .f32 0xFF800000#32) fun k => max (f k) (-(f k))

theorem amax_nonneg (f : Fin K → EReal) (hK : 0 < K) : 0 ≤ amax f := by
  unfold amax
  rw [Finset.le_fold_max]
  right
  refine ⟨⟨0, hK⟩, Finset.mem_univ _, ?_⟩
  rcases le_total 0 (f ⟨0, hK⟩) with h | h
  · exact le_max_of_le_left h
  · exact le_max_of_le_right (by rw [EReal.le_neg]; simpa using h)

theorem amax_le (f : Fin K → EReal) (b : EReal) : amax f ≤ b ↔ ∀ k, max (f k) (-(f k)) ≤ b := by
  unfold amax
  rw [Finset.fold_max_le, w_ninf]
  simp

theorem bcol {α : Type} (v : (⟨2, ![M, 1]⟩ : Shape).Idx → α) (h : (⟨2, ![M, 1]⟩ : Shape).Broadcasts ⟨2, ![M, K]⟩)
    (p : Fin M) (c : Fin K) : broadcastTo ⟨2, ![M, K]⟩ v h (ix2 p c) = v (ix2 p (0 : Fin 1)) := by
  refine broadcastTo_apply v h (ix2 p c) (ix2 p (0 : Fin 1)) fun ax => ?_
  match ax with
  | ⟨0, _⟩ =>
    show p.val = if M = 1 then 0 else p.val
    split
    · have := p.isLt; omega
    · rfl
  | ⟨1, _⟩ => rfl

theorem lift_row (h : (⟨2, ![M, K]⟩ : Shape).Reduces [1] (⟨1, ![M]⟩ : Shape)) (t : Fin M)
    (k : Fin ((⟨2, ![M, K]⟩ : Shape).size 1)) : h.lift (ix1 t) k = ix2 t (⟨k.val, k.isLt⟩ : Fin K) := by
  funext c; apply Fin.ext
  fin_cases c <;> rfl

theorem rmax (x : FVec Ideal ⟨2, ![M, K]⟩ .f32) (h : (⟨2, ![M, K]⟩ : Shape).Reduces [1] (⟨1, ![M]⟩ : Shape))
    (acc : BitVec FTy.f32.bits) (hφ : FKind.Formats .f32) (hacc : acc = FKind.maximumf.neutral .f32 hφ) (t : Fin M) :
    multiReduction .maximumf [1] ⟨1, ![M]⟩ x acc h hφ hacc (ix1 t)
      = (Finset.univ : Finset (Fin K)).fold max (Ideal.ofBits .f32 acc) fun k => x (ix2 t k) := by
  rw [Ideal.multiReduction_maximumf_single]
  have hf : (x ∘ h.lift (ix1 t)) = fun k : Fin K => x (ix2 t k) := funext fun k => congrArg x (lift_row h t k)
  exact congrArg (fun f => Finset.fold max (Ideal.ofBits .f32 acc) f (Finset.univ : Finset (Fin K))) hf

theorem rmin (x : FVec Ideal ⟨2, ![M, K]⟩ .f32) (h : (⟨2, ![M, K]⟩ : Shape).Reduces [1] (⟨1, ![M]⟩ : Shape))
    (acc : BitVec FTy.f32.bits) (hφ : FKind.Formats .f32) (hacc : acc = FKind.minimumf.neutral .f32 hφ) (t : Fin M) :
    multiReduction .minimumf [1] ⟨1, ![M]⟩ x acc h hφ hacc (ix1 t)
      = (Finset.univ : Finset (Fin K)).fold min (Ideal.ofBits .f32 acc) fun k => x (ix2 t k) := by
  rw [multiReduction_minimumf_eq_fold]
  refine (h.fold_filter_drop_single _ _ x (ix1 t)).trans ?_
  have hf : (x ∘ h.lift (ix1 t)) = fun k : Fin K => x (ix2 t k) := funext fun k => congrArg x (lift_row h t k)
  exact congrArg (fun f => Finset.fold min (Ideal.ofBits .f32 acc) f (Finset.univ : Finset (Fin K))) hf

theorem rcount (x : IVec ⟨2, ![M, K]⟩ 1) (hn : 1 < 32) (h : (⟨2, ![M, K]⟩ : Shape).Reduces [1] (⟨1, ![M]⟩ : Shape))
    (hacc : (0#32 : BitVec 32) = IKind.add.neutral) (t : Fin M) :
    multiReductionI .add [1] ⟨1, ![M]⟩ (extui 32 x hn) 0#32 h hacc (ix1 t)
      = BitVec.ofNat 32 (Finset.univ.filter fun k : Fin K => x (ix2 t k) = 1#1).card := by
  rw [multiReductionI_eq_fold]
  refine (h.fold_filter_drop_single _ _ _ (ix1 t)).trans ?_
  rw [← IndicatorCount.fold_addi_setWidth_eq_card]
  have hf : ((extui 32 x hn) ∘ h.lift (ix1 t)) = fun k : Fin K => (x (ix2 t k)).setWidth 32 :=
    funext fun k => congrArg (fun i => (x i).setWidth 32) (lift_row h t k)
  exact congrArg (fun f => Finset.fold IntOp.addi 0#32 f (Finset.univ : Finset (Fin K))) hf

/-- The reference's scale expression. -/
def rsv (v : FVec Ideal ⟨2, ![M, K]⟩ .f32)
    (hF : FKind.Formats .f32) (hM : (0xFF800000#32 : BitVec FTy.f32.bits) = FKind.maximumf.neutral .f32 hF)
    (hm : (0x7F800000#32 : BitVec FTy.f32.bits) = FKind.minimumf.neutral .f32 hF)
    (hrK : (⟨2, ![M, K]⟩ : Shape).Reduces [1] (⟨1, ![M]⟩ : Shape)) (hrL : (⟨2, ![M, 252]⟩ : Shape).Reduces [1] (⟨1, ![M]⟩ : Shape))
    (hc : (⟨1, ![M]⟩ : Shape).ShapeCasts ⟨2, ![M, 1]⟩) (hi : (⟨2, ![1, 252]⟩ : Shape).Iotas .tc 32 [1])
    (hbc : (⟨2, ![M, 1]⟩ : Shape).Broadcasts ⟨2, ![M, 252]⟩) (hbr : (⟨2, ![1, 252]⟩ : Shape).Broadcasts ⟨2, ![M, 252]⟩)
    (hs : (⟨2, ![1, 252]⟩ : Shape).ShapeCasts ⟨2, ![1, 252]⟩) : FVec Ideal ⟨2, ![M, 1]⟩ .f32 :=
  have v3 : FVec Ideal ⟨2, ![M, K]⟩ .f32 := absf v
  have v4 : FVec Ideal ⟨1, ![M]⟩ .f32 := multiReduction .maximumf [1] ⟨1, ![M]⟩ v3 0xFF800000#32 hrK hF hM
  have v5 : FVec Ideal ⟨2, ![M, 1]⟩ .f32 := shapeCast ⟨2, ![M, 1]⟩ v4 hc
  have cst_1 : Ideal .f32 := Scalar.ofBits .f32 0x3B124925#32
  have v6 : FVec Ideal ⟨2, ![M, 1]⟩ .f32 := broadcast ⟨2, ![M, 1]⟩ cst_1
  have v7 : FVec Ideal ⟨2, ![M, 1]⟩ .f32 := mulf v5 v6
  have v8 : IVec ⟨2, ![1, 252]⟩ 32 := iota .tc ⟨2, ![1, 252]⟩ 32 [1] hi
  have v9 : IVec ⟨2, ![1, 252]⟩ 32 := broadcast ⟨2, ![1, 252]⟩ 125#32
  have v10 : IVec ⟨2, ![1, 252]⟩ 32 := subi v8 v9
  have v11 : FVec Ideal ⟨2, ![1, 252]⟩ .f32 := sitofp .f32 v10
  have v12 : FVec Ideal ⟨2, ![1, 252]⟩ .f32 := exp2 v11
  have v13 : FVec Ideal ⟨2, ![M, 252]⟩ .f32 := broadcastTo ⟨2, ![M, 252]⟩ v7 hbc
  have v14 : FVec Ideal ⟨2, ![M, 252]⟩ .f32 := broadcastTo ⟨2, ![M, 252]⟩ v12 hbr
  have v15 : IVec ⟨2, ![M, 252]⟩ 1 := cmpf .olt v13 v14
  have cst_2 : Ideal .f32 := Scalar.ofBits .f32 0x7E800000#32
  have v16 : FVec Ideal ⟨2, ![1, 252]⟩ .f32 := shapeCast ⟨2, ![1, 252]⟩ v12 hs
  have v17 : FVec Ideal ⟨2, ![M, 252]⟩ .f32 := broadcastTo ⟨2, ![M, 252]⟩ v16 hbr
  have v18 : FVec Ideal ⟨2, ![M, 252]⟩ .f32 := broadcast ⟨2, ![M, 252]⟩ cst_2
  have v19 : FVec Ideal ⟨2, ![M, 252]⟩ .f32 := select v15 v17 v18
  have v20 : FVec Ideal ⟨1, ![M]⟩ .f32 := multiReduction .minimumf [1] ⟨1, ![M]⟩ v19 0x7F800000#32 hrL hF hm
  have v21 : FVec Ideal ⟨2, ![M, 1]⟩ .f32 := shapeCast ⟨2, ![M, 1]⟩ v20 hc
  have cst_4 : Ideal .f32 := Scalar.ofBits .f32 0x00800000#32
  have v22 : FVec Ideal ⟨2, ![M, 1]⟩ .f32 := broadcast ⟨2, ![M, 1]⟩ cst_4
  have v23 : IVec ⟨2, ![M, 1]⟩ 1 := cmpf .olt v7 v22
  have cst_5 : Ideal .f32 := Scalar.ofBits .f32 0x7F800000#32
  have v24 : FVec Ideal ⟨2, ![M, 1]⟩ .f32 := broadcast ⟨2, ![M, 1]⟩ cst_5
  have v25 : IVec ⟨2, ![M, 1]⟩ 1 := cmpf .oeq v7 v24
  have v26 : IVec ⟨2, ![M, 1]⟩ 1 := ori v23 v25
  have cst_6 : Ideal .f32 := Scalar.ofBits .f32 0x3F800000#32
  have v27 : FVec Ideal ⟨2, ![M, 1]⟩ .f32 := broadcast ⟨2, ![M, 1]⟩ cst_6
  have v28 : FVec Ideal ⟨2, ![M, 1]⟩ .f32 := select v26 v27 v21
  v28

theorem rsv_apply (v : FVec Ideal ⟨2, ![M, K]⟩ .f32)
    (hF : FKind.Formats .f32) (hM : (0xFF800000#32 : BitVec FTy.f32.bits) = FKind.maximumf.neutral .f32 hF)
    (hm : (0x7F800000#32 : BitVec FTy.f32.bits) = FKind.minimumf.neutral .f32 hF)
    (hrK : (⟨2, ![M, K]⟩ : Shape).Reduces [1] (⟨1, ![M]⟩ : Shape)) (hrL : (⟨2, ![M, 252]⟩ : Shape).Reduces [1] (⟨1, ![M]⟩ : Shape))
    (hc : (⟨1, ![M]⟩ : Shape).ShapeCasts ⟨2, ![M, 1]⟩) (hi : (⟨2, ![1, 252]⟩ : Shape).Iotas .tc 32 [1])
    (hbc : (⟨2, ![M, 1]⟩ : Shape).Broadcasts ⟨2, ![M, 252]⟩) (hbr : (⟨2, ![1, 252]⟩ : Shape).Broadcasts ⟨2, ![M, 252]⟩)
    (hs : (⟨2, ![1, 252]⟩ : Shape).ShapeCasts ⟨2, ![1, 252]⟩) (t : Fin M) :
    rsv v hF hM hm hrK hrL hc hi hbc hbr hs (ix2 t (0 : Fin 1)) = rscale (amax fun k => v (ix2 t k)) := by
  have e1 : ∀ X : FVec Ideal ⟨2, ![M, K]⟩ .f32, multiReduction .maximumf [1] ⟨1, ![M]⟩ X 0xFF800000#32 hrK hF hM (ix1 t)
      = (Finset.univ : Finset (Fin K)).fold max (Ideal.ofBits .f32 0xFF800000#32) fun k => X (ix2 t k) := fun X => rmax X hrK _ hF hM t
  have e2 : ∀ X : FVec Ideal ⟨2, ![M, 252]⟩ .f32, multiReduction .minimumf [1] ⟨1, ![M]⟩ X 0x7F800000#32 hrL hF hm (ix1 t)
      = (Finset.univ : Finset (Fin 252)).fold min (Ideal.ofBits .f32 0x7F800000#32) fun k => X (ix2 t k) := fun X => rmin X hrL _ hF hm t
  unfold rsv
  simp only [select, ori, cmpf, mulf, broadcast, sitofp, exp2, subi, absf, shapeCast_a_a1_apply, e1, e2, bcol,
    broadcastTo_1b_ab_apply, shapeCast_self, iota]
  unfold rscale rt amax
  simp only [List.foldl_cons, List.foldl_nil, Nat.zero_mul, Nat.zero_add]
  rfl

/-- The kernel's exponent expression. -/
def kev (v41 : FVec Ideal ⟨2, ![M, 1]⟩ .f32)
    (hrL : (⟨2, ![M, 256]⟩ : Shape).Reduces [1] (⟨1, ![M]⟩ : Shape))
    (hc : (⟨1, ![M]⟩ : Shape).ShapeCasts ⟨2, ![M, 1]⟩) (hi : (⟨2, ![1, 256]⟩ : Shape).Iotas .tc 32 [1])
    (hbc : (⟨2, ![M, 1]⟩ : Shape).Broadcasts ⟨2, ![M, 256]⟩) (hbr : (⟨2, ![1, 256]⟩ : Shape).Broadcasts ⟨2, ![M, 256]⟩)
    (hn : 1 < 32) (hz : (0#32 : BitVec 32) = IKind.add.neutral) : IVec ⟨2, ![M, 1]⟩ 32 :=
  have cst_20 : Ideal .f32 := Scalar.ofBits .f32 0x3B124925#32
  have v42 : FVec Ideal ⟨2, ![M, 1]⟩ .f32 := broadcast ⟨2, ![M, 1]⟩ cst_20
  have v43 : FVec Ideal ⟨2, ![M, 1]⟩ .f32 := mulf v41 v42
  have v44 : IVec ⟨2, ![1, 256]⟩ 32 := iota .tc ⟨2, ![1, 256]⟩ 32 [1] hi
  have v45 : IVec ⟨2, ![1, 256]⟩ 32 := broadcast ⟨2, ![1, 256]⟩ 23#32
  have v46 : IVec ⟨2, ![1, 256]⟩ 32 := shli v44 v45
  have v47 : FVec Ideal ⟨2, ![1, 256]⟩ .f32 := bitcastToFloat .f32 v46
  have v48 : FVec Ideal ⟨2, ![M, 256]⟩ .f32 := broadcastTo ⟨2, ![M, 256]⟩ v43 hbc
  have v49 : FVec Ideal ⟨2, ![M, 256]⟩ .f32 := broadcastTo ⟨2, ![M, 256]⟩ v47 hbr
  have v50 : IVec ⟨2, ![M, 256]⟩ 1 := cmpf .oge v48 v49
  have v51 : IVec ⟨2, ![M, 256]⟩ 32 := extui 32 v50 hn
  have v52 : IVec ⟨1, ![M]⟩ 32 := multiReductionI .add [1] ⟨1, ![M]⟩ v51 0#32 hrL hz
  have v53 : IVec ⟨2, ![M, 1]⟩ 32 := shapeCast ⟨2, ![M, 1]⟩ v52 hc
  have v54 : IVec ⟨2, ![M, 1]⟩ 32 := broadcast ⟨2, ![M, 1]⟩ 1#32
  have v55 : IVec ⟨2, ![M, 1]⟩ 1 := cmpi .sle v53 v54
  have v56 : IVec ⟨2, ![M, 1]⟩ 32 := broadcast ⟨2, ![M, 1]⟩ 256#32
  have v57 : IVec ⟨2, ![M, 1]⟩ 1 := cmpi .eq v53 v56
  have v58 : IVec ⟨2, ![M, 1]⟩ 1 := ori v55 v57
  have v59 : IVec ⟨2, ![M, 1]⟩ 32 := broadcast ⟨2, ![M, 1]⟩ 253#32
  have v60 : IVec ⟨2, ![M, 1]⟩ 32 := minsi v53 v59
  have v61 : IVec ⟨2, ![M, 1]⟩ 32 := broadcast ⟨2, ![M, 1]⟩ 127#32
  have v62 : IVec ⟨2, ![M, 1]⟩ 32 := subi v60 v61
  have v63 : IVec ⟨2, ![M, 1]⟩ 32 := broadcast ⟨2, ![M, 1]⟩ 0#32
  have v64 : IVec ⟨2, ![M, 1]⟩ 32 := select v58 v63 v62
  have cst_24 : Ideal .f32 := Scalar.ofBits .f32 0x00000000#32
  have v65 : FVec Ideal ⟨2, ![M, 1]⟩ .f32 := broadcast ⟨2, ![M, 1]⟩ cst_24
  have v66 : IVec ⟨2, ![M, 1]⟩ 1 := cmpf .oeq v41 v65
  have v67 : IVec ⟨2, ![M, 1]⟩ 32 := broadcast ⟨2, ![M, 1]⟩ 0#32
  have v68 : IVec ⟨2, ![M, 1]⟩ 32 := select v66 v67 v64
  v68

theorem kev_apply (v : FVec Ideal ⟨2, ![M, 1]⟩ .f32)
    (hrL : (⟨2, ![M, 256]⟩ : Shape).Reduces [1] (⟨1, ![M]⟩ : Shape))
    (hc : (⟨1, ![M]⟩ : Shape).ShapeCasts ⟨2, ![M, 1]⟩) (hi : (⟨2, ![1, 256]⟩ : Shape).Iotas .tc 32 [1])
    (hbc : (⟨2, ![M, 1]⟩ : Shape).Broadcasts ⟨2, ![M, 256]⟩) (hbr : (⟨2, ![1, 256]⟩ : Shape).Broadcasts ⟨2, ![M, 256]⟩)
    (hn : 1 < 32) (hz : (0#32 : BitVec 32) = IKind.add.neutral) (t : Fin M) :
    kev v hrL hc hi hbc hbr hn hz (ix2 t (0 : Fin 1)) = kexp (v (ix2 t (0 : Fin 1))) := by
  have e1 : ∀ X : IVec ⟨2, ![M, 256]⟩ 1, multiReductionI .add [1] ⟨1, ![M]⟩ (extui 32 X hn) 0#32 hrL hz (ix1 t)
      = BitVec.ofNat 32 (Finset.univ.filter fun k : Fin 256 => X (ix2 t k) = 1#1).card := fun X => rcount X hn hrL hz t
  unfold kev
  simp only [select, ori, cmpi, cmpf, mulf, broadcast, subi, minsi, shapeCast_a_a1_apply, e1, bcol,
    broadcastTo_1b_ab_apply, bitcastToFloat, shli, iota]
  simp only [List.foldl_cons, List.foldl_nil, Nat.zero_mul, Nat.zero_add]
  have e : (Finset.univ.filter fun k : Fin 256 =>
      FloatOps.cmpf (F := Ideal) (φ := .f32) .oge (FloatOps.mulf (v (ix2 t (0 : Fin 1))) (Scalar.ofBits .f32 0x3B124925#32))
        (FloatOps.ofBits .f32 (IntOp.shli .vector (BitVec.ofNat 32 k.val) 23#32)) = 1#1)
      = Finset.univ.filter fun k : Fin 256 => pw k.val ≤ v (ix2 t (0 : Fin 1)) * c448 := by
    ext k
    simp only [Finset.mem_filter, Finset.mem_univ, true_and]
    show Ideal.cmp .oge (v (ix2 t (0 : Fin 1)) * c448) (pw k.val) = 1#1 ↔ _
    unfold Ideal.cmp
    by_cases h : pw k.val ≤ v (ix2 t (0 : Fin 1)) * c448 <;> simp [h]
  unfold kexp kw cnt
  rw [← e]
  rfl

end Cert.Read
-- ==== Proof.Ideal.Spec.lean ====
/-
  The results as plain functions of the activations, the weight codes and the weight scales: the quantised rows, the
  scaled product, the gated product, and the quantised rows of that.
-/
module

public import proofs.«01_k».proof.Proof.Ideal.Read

@[expose] public section

noncomputable section

namespace Cert.Spec

open Idealize.ShloMosaic Idealize.ShloMosaic.ValueIdx Cert.Scale Cert.Read

/-- Clipped to the range of the codes. -/
def clamp (v : EReal) : EReal := min (Ideal.ofBits .f32 0x43E00000#32) (max (Ideal.ofBits .f32 0xC3E00000#32) v)

/-- The scale of a row. -/
def sc {K : ℕ} (f : Fin K → EReal) : EReal := rscale (amax f)
/-- The code of an entry of a row. -/
def qt {K : ℕ} (f : Fin K → EReal) (k : Fin K) : EReal := clamp (Ideal.div (f k) (sc f))

/-- One entry of the scaled product: a quantised row by a column of weight codes. -/
def prod {K : ℕ} (f w : Fin K → EReal) (s : EReal) : EReal :=
  ((Ideal.ofBits .f32 0x00000000#32 + ∑ k : Fin K, qt f k * w k) * sc f) * s

/-- The gate through its activation, by the other half. -/
def gated (g u : EReal) : EReal := g * Ideal.logistic g * u

/-- One row of the gated product. -/
def hid {K N : ℕ} (f : Fin K → EReal) (wg wu : Fin N → Fin K → EReal) (sg su : Fin N → EReal) (c : Fin N) : EReal :=
  gated (prod f (wg c) (sg c)) (prod f (wu c) (su c))

/-- An index of a column. -/
theorem idx1 {M : ℕ} (y : (⟨2, ![M, 1]⟩ : Shape).Idx) : y = ix2 (y 0) (0 : Fin 1) :=
  (eq_ix2 y).trans (congrArg (fun z : Fin 1 => ix2 (y 0) z) (Subsingleton.elim (α := Fin 1) (y 1) 0))

/-- Row `r` of the activations. -/
def rowOf (x : FVec Ideal ⟨2, ![3072, 7168]⟩ .bf16) (r : Fin 3072) : Fin 7168 → EReal := fun k => x (ix2 r k)

/-- Column `c` of the left half of the weight codes (`o` = 0), or of the right half (`o` = 10240). -/
def wcol (w : FVec Ideal ⟨2, ![7168, 20480]⟩ .fp8e4m3) (o : ℕ) (ho : o ≤ 10240) (c : Fin 10240) : Fin 7168 → EReal :=
  fun k => w (ix2 k (⟨o + c.val, by omega⟩ : Fin 20480))
/-- Its scale. -/
def scol (s : FVec Ideal ⟨2, ![1, 20480]⟩ .f32) (o : ℕ) (ho : o ≤ 10240) (c : Fin 10240) : EReal :=
  s (ix2 (0 : Fin 1) (⟨o + c.val, by omega⟩ : Fin 20480))

/-- Row `r` of the gated product. -/
def hrowOf (x : FVec Ideal ⟨2, ![3072, 7168]⟩ .bf16) (w : FVec Ideal ⟨2, ![7168, 20480]⟩ .fp8e4m3)
    (s : FVec Ideal ⟨2, ![1, 20480]⟩ .f32) (r : Fin 3072) : Fin 10240 → EReal :=
  hid (rowOf x r) (wcol w 0 (by omega)) (wcol w 10240 (by omega)) (scol s 0 (by omega)) (scol s 10240 (by omega))

/-- The four results, of the activations as rows, the weight codes and the weight scales as a row. -/
def resXC (x : FVec Ideal ⟨2, ![3072, 7168]⟩ .bf16) : FVec Ideal ⟨2, ![3072, 7168]⟩ .fp8e4m3 :=
  fun i => qt (rowOf x (i 0)) (i 1)
def resXS (x : FVec Ideal ⟨2, ![3072, 7168]⟩ .bf16) : FVec Ideal ⟨2, ![3072, 1]⟩ .f32 :=
  fun i => sc (rowOf x (i 0))
def resHC (x : FVec Ideal ⟨2, ![3072, 7168]⟩ .bf16) (w : FVec Ideal ⟨2, ![7168, 20480]⟩ .fp8e4m3)
    (s : FVec Ideal ⟨2, ![1, 20480]⟩ .f32) : FVec Ideal ⟨2, ![3072, 10240]⟩ .fp8e4m3 :=
  fun i => qt (hrowOf x w s (i 0)) (i 1)
def resHS (x : FVec Ideal ⟨2, ![3072, 7168]⟩ .bf16) (w : FVec Ideal ⟨2, ![7168, 20480]⟩ .fp8e4m3)
    (s : FVec Ideal ⟨2, ![1, 20480]⟩ .f32) : FVec Ideal ⟨2, ![3072, 1]⟩ .f32 :=
  fun i => sc (hrowOf x w s (i 0))

/-- A product of codes by codes under a column of scales, read at an entry. -/
theorem mmv {M K N : ℕ} (d : DotDims ⟨2, ![M, K]⟩ ⟨2, ![K, N]⟩ ⟨2, ![M, N]⟩) (hd : d = DotDims.plain M K N)
    (a : FVec Ideal ⟨2, ![M, K]⟩ .fp8e4m3) (w : FVec Ideal ⟨2, ![K, N]⟩ .fp8e4m3) (s : FVec Ideal ⟨2, ![M, 1]⟩ .f32)
    (h : (⟨2, ![M, 1]⟩ : Shape).Broadcasts ⟨2, ![M, N]⟩) (r : Fin M) (j : Fin N) :
    mulf (matmul d none a w (constant ⟨2, ![M, N]⟩ .f32 0x00000000#32)) (broadcastTo ⟨2, ![M, N]⟩ s h) (ix2 r j)
      = (Ideal.ofBits .f32 0x00000000#32 + ∑ k : Fin K, a (ix2 r k) * w (ix2 k j)) * s (ix2 r (0 : Fin 1)) := by
  subst hd
  have e1 := Ideal.matmul_plain_apply (M := M) (K := K) (N := N) (φ₁ := .fp8e4m3) (φ₂ := .fp8e4m3) none a w
    (constant ⟨2, ![M, N]⟩ .f32 0x00000000#32) r j
  rw [← bcol s h r j]
  exact congrArg (· * broadcastTo ⟨2, ![M, N]⟩ s h (ix2 r j)) e1

/-- The two halves of an array through the gate, read at an entry. -/
theorem gatev {M N L : ℕ} (m : FVec Ideal ⟨2, ![M, L]⟩ .f32) (o : ℕ)
    (hg : (⟨2, ![M, L]⟩ : Shape).Slices ![0, 0] ⟨2, ![M, N]⟩) (hu : (⟨2, ![M, L]⟩ : Shape).Slices ![0, o] ⟨2, ![M, N]⟩)
    (r : Fin M) (c : Fin N) (jg ju : Fin L) (h1 : jg.val = 0 + c.val) (h2 : ju.val = o + c.val) :
    mulf (mulf (extractStridedSlice ⟨2, ![M, N]⟩ ![0, 0] m hg) (logistic (extractStridedSlice ⟨2, ![M, N]⟩ ![0, 0] m hg)))
        (extractStridedSlice ⟨2, ![M, N]⟩ ![0, o] m hu) (ix2 r c)
      = gated (m (ix2 r jg)) (m (ix2 r ju)) := by
  rw [← slice2_axis1_apply 0 m hg r c jg h1, ← slice2_axis1_apply o m hu r c ju h2]
  rfl

/-- Divided by a column of scales and clipped, read at an entry. -/
theorem clampv {M K : ℕ} (v : FVec Ideal ⟨2, ![M, K]⟩ .f32) (s : FVec Ideal ⟨2, ![M, 1]⟩ .f32)
    (h : (⟨2, ![M, 1]⟩ : Shape).Broadcasts ⟨2, ![M, K]⟩) (hb : FTy.fp8e4m3.bits < FTy.f32.bits) (r : Fin M) (k : Fin K) :
    truncf .fp8e4m3 (minimumf (broadcast ⟨2, ![M, K]⟩ (Scalar.ofBits .f32 0x43E00000#32))
      (maximumf (broadcast ⟨2, ![M, K]⟩ (Scalar.ofBits .f32 0xC3E00000#32)) (divf v (broadcastTo ⟨2, ![M, K]⟩ s h)))) hb (ix2 r k)
      = clamp (Ideal.div (v (ix2 r k)) (s (ix2 r (0 : Fin 1)))) := by
  rw [← bcol s h r k]
  rfl

/-- Multiplied by a column and clipped, read at an entry. -/
theorem clampm {M K : ℕ} (v : FVec Ideal ⟨2, ![M, K]⟩ .f32) (s : FVec Ideal ⟨2, ![M, 1]⟩ .f32)
    (h : (⟨2, ![M, 1]⟩ : Shape).Broadcasts ⟨2, ![M, K]⟩) (hb : FTy.fp8e4m3.bits < FTy.f32.bits) (r : Fin M) (k : Fin K) :
    truncf .fp8e4m3 (minimumf (broadcast ⟨2, ![M, K]⟩ (Scalar.ofBits .f32 0x43E00000#32))
      (maximumf (broadcast ⟨2, ![M, K]⟩ (Scalar.ofBits .f32 0xC3E00000#32)) (mulf v (broadcastTo ⟨2, ![M, K]⟩ s h)))) hb (ix2 r k)
      = clamp (v (ix2 r k) * s (ix2 r (0 : Fin 1))) := by
  rw [← bcol s h r k]
  rfl

/-- Multiplied by a column and by a row, through the gate, read at an entry. -/
theorem gatek {M N : ℕ} (g u : FVec Ideal ⟨2, ![M, N]⟩ .f32) (sg su : FVec Ideal ⟨2, ![1, N]⟩ .f32)
    (h1 h2 : (⟨2, ![1, N]⟩ : Shape).Broadcasts ⟨2, ![M, N]⟩) (r : Fin M) (c : Fin N) :
    mulf (mulf (mulf g (broadcastTo ⟨2, ![M, N]⟩ sg h1)) (logistic (mulf g (broadcastTo ⟨2, ![M, N]⟩ sg h1))))
        (mulf u (broadcastTo ⟨2, ![M, N]⟩ su h2)) (ix2 r c)
      = gated (g (ix2 r c) * sg (ix2 (0 : Fin 1) c)) (u (ix2 r c) * su (ix2 (0 : Fin 1) c)) := by
  rw [← broadcastTo_1b_ab_apply sg h1 r c, ← broadcastTo_1b_ab_apply su h2 r c]
  rfl

end Cert.Spec
-- ==== Proof.Ideal.KerRead.lean ====
/-
  What the kernel's two bodies compute, read at an index.
-/
module

public import proofs.«01_k».proof.Proof.Ideal.Spec
public import proofs.«01_k».proof.Proof.Gen.KernelIdeal.Skeleton

@[expose] public section

set_option maxRecDepth 16384

noncomputable section

namespace Cert.KernelIdeal.Value

open Cert.KernelIdeal Cert.KernelIdeal.Gen
open Idealize.ShloMosaic Idealize.ShloMosaic.ValueIdx Cert.Scale Cert.Read Cert.Spec

/-- Row `r` of a block of activations. -/
def brow (x : Vec Ideal S256x7168 .bf16) (r : Fin 256) : Fin 7168 → EReal := fun k => x (ix2 r k)

theorem q2 (x : Vec Ideal S256x7168 .bf16) : k0_pay2 (F := Ideal) x = x := by
  unfold k0_pay2
  rw [shapeCast_self]
  rfl

/-- The row maxima of magnitudes of a block of activations. -/
def q5 (x : Vec Ideal S256x7168 .bf16) : FVec Ideal S256x1 .f32 :=
  shapeCast S256x1 (multiReduction .maximumf [1] S256 (absf (k0_pay2 (F := Ideal) x)) 0xFF800000#32 reduces_S256x7168_S256 (.inl rfl) rfl) shapeCasts_S256_S256x1

theorem q5_apply (x : Vec Ideal S256x7168 .bf16) (r : Fin 256) : q5 x (ix2 r (0 : Fin 1)) = amax (brow x r) := by
  unfold q5
  refine (shapeCast_a_a1_apply (a := 256) _ shapeCasts_S256_S256x1 r 0).trans ?_
  refine (rmax (M := 256) (K := 7168) (absf (k0_pay2 (F := Ideal) x)) reduces_S256x7168_S256 _ (.inl rfl) rfl r).trans ?_
  rw [q2]
  rfl

theorem q3 (x : Vec Ideal S256x7168 .bf16) (r : Fin 256) : k0_pay3 (F := Ideal) x (ix2 r (0 : Fin 1)) = kexp (amax (brow x r)) := by
  have e : k0_pay3 (F := Ideal) x = kev (M := 256) (q5 x) reduces_S256x256_S256 shapeCasts_S256_S256x1 iota_S1x256_d1_w32
      broadcasts_S256x1_S256x256 broadcasts_S1x256_S256x256 natLt_1_32 rfl := rfl
  refine (congrFun e _).trans ((kev_apply _ _ _ _ _ _ _ _ r).trans ?_)
  rw [q5_apply]

theorem q4 (x : Vec Ideal S256x7168 .bf16) (r : Fin 256) : k0_pay4 (F := Ideal) x (ix2 r (0 : Fin 1)) = sc (brow x r) := by
  unfold sc
  rw [← kscale_eq_rscale (amax_nonneg (brow x r) (by omega))]
  unfold kscale
  rw [← q3]
  rfl

theorem q1 (x : Vec Ideal S256x7168 .bf16) (r : Fin 256) (k : Fin 7168) :
    k0_pay1 (F := Ideal) (k0_pay2 (F := Ideal) x) (k0_pay5 (F := Ideal) x) (ix2 r k) = qt (brow x r) k := by
  refine (clampm (M := 256) (K := 7168) (k0_pay2 (F := Ideal) x) (bitcastToFloat .f32 (shli (k0_pay5 (F := Ideal) x) (broadcast S256x1 23#32)))
    broadcasts_S256x1_S256x7168 bitsLt_fp8e4m3_f32 r k).trans ?_
  rw [q2]
  have h : (bitcastToFloat .f32 (shli (k0_pay5 (F := Ideal) x) (broadcast S256x1 23#32)) : FVec Ideal S256x1 .f32) (ix2 r (0 : Fin 1))
      = kinv (amax (brow x r)) := by
    unfold kinv
    rw [← q3]
    rfl
  rw [h, mul_kinv (amax_nonneg (brow x r) (by omega))]
  rfl

/-- One entry of the scaled product of a row of codes by a column of weight codes. -/
def kprod (f w : Fin 7168 → EReal) (a s : EReal) : EReal :=
  ((Ideal.ofBits .f32 0x00000000#32 + ∑ k : Fin 7168, f k * w k) * a) * s

theorem kdot_plain : dot_S512x7168_S7168x256_S512x256_1_0_0_1_n_n = DotDims.plain 512 7168 256 := rfl

theorem r6 (v0 : Vec Ideal S512x7168 .fp8e4m3) (v2 : Vec Ideal S512x1 .f32) (v4 v6 : Vec Ideal S7168x256 .fp8e4m3) (v10 v16 : Vec Ideal S1x256 .f32)
    (r : Fin 512) (c : Fin 256) :
    k1_pay6 (F := Ideal) v0 v2 v4 v6 v10 v16 (ix2 r c)
      = gated (kprod (fun k => v0 (ix2 r k)) (fun k => v4 (ix2 k c)) (v2 (ix2 r (0 : Fin 1))) (v10 (ix2 (0 : Fin 1) c)))
          (kprod (fun k => v0 (ix2 r k)) (fun k => v6 (ix2 k c)) (v2 (ix2 r (0 : Fin 1))) (v16 (ix2 (0 : Fin 1) c))) := by
  unfold k1_pay6
  rw [shapeCast_self, shapeCast_self, shapeCast_self, shapeCast_self]
  refine (gatek (M := 512) (N := 256) _ _ v10 v16 broadcasts_S1x256_S512x256 broadcasts_S1x256_S512x256 r c).trans ?_
  have h4 := mmv (M := 512) (K := 7168) (N := 256) _ kdot_plain v0 v4 v2 broadcasts_S512x1_S512x256 r c
  have h6 := mmv (M := 512) (K := 7168) (N := 256) _ kdot_plain v0 v6 v2 broadcasts_S512x1_S512x256 r c
  exact congrArg₂ (fun a b : EReal => gated (a * v10 (ix2 (0 : Fin 1) c)) (b * v16 (ix2 (0 : Fin 1) c))) h4 h6

theorem r7 (v0 : Vec Ideal S512x7168 .fp8e4m3) (v2 : Vec Ideal S512x1 .f32) (v4 v6 : Vec Ideal S7168x256 .fp8e4m3) (v10 v16 : Vec Ideal S1x256 .f32) :
    k1_pay7 (F := Ideal) v0 v2 v4 v6 v10 v16 = k1_pay6 (F := Ideal) v0 v2 v4 v6 v10 v16 := by
  unfold k1_pay7
  exact shapeCast_self _ _

theorem r8 (v0 : Vec Ideal S512x7168 .fp8e4m3) (v2 : Vec Ideal S512x1 .f32) (v4 v6 : Vec Ideal S7168x256 .fp8e4m3) (v10 v16 : Vec Ideal S1x256 .f32)
    (r : Fin 512) :
    k1_pay8 (F := Ideal) v0 v2 v4 v6 v10 v16 (ix2 r (0 : Fin 1)) = amax fun c : Fin 256 => k1_pay6 (F := Ideal) v0 v2 v4 v6 v10 v16 (ix2 r c) := by
  unfold k1_pay8
  refine (shapeCast_a_a1_apply (a := 512) _ shapeCasts_S512_S512x1 r 0).trans ?_
  exact rmax (M := 512) (K := 256) (absf (k1_pay6 (F := Ideal) v0 v2 v4 v6 v10 v16)) reduces_S512x256_S512 _ (.inl rfl) rfl r

theorem r9 (v0 : Vec Ideal S512x7168 .fp8e4m3) (v2 : Vec Ideal S512x1 .f32) (v4 v6 : Vec Ideal S7168x256 .fp8e4m3) (v10 v16 : Vec Ideal S1x256 .f32) :
    k1_pay9 (F := Ideal) v0 v2 v4 v6 v10 v16 = k1_pay8 (F := Ideal) v0 v2 v4 v6 v10 v16 := by
  unfold k1_pay9
  exact shapeCast_self _ _

theorem r1 (a b : Vec Ideal S512x1 .f32) (i : S512x1.Idx) : k1_pay1 (F := Ideal) a b i = max (b i) (a i) := by
  unfold k1_pay1
  rw [shapeCast_self]
  rfl

theorem r3 (v : Vec Ideal S512x1 .f32) (r : Fin 512) : k1_pay3 (F := Ideal) v (ix2 r (0 : Fin 1)) = kexp (v (ix2 r (0 : Fin 1))) := by
  have e : k1_pay3 (F := Ideal) v = kev (M := 512) v reduces_S512x256_S512 shapeCasts_S512_S512x1 iota_S1x256_d1_w32
      broadcasts_S512x1_S512x256 broadcasts_S1x256_S512x256 natLt_1_32 rfl := rfl
  exact (congrFun e _).trans (kev_apply _ _ _ _ _ _ _ _ r)

theorem r4 (v : Vec Ideal S512x1 .f32) (r : Fin 512) {N : ℕ} (f : Fin N → EReal) (hN : 0 < N) (hv : v (ix2 r (0 : Fin 1)) = amax f) :
    k1_pay4 (F := Ideal) v (ix2 r (0 : Fin 1)) = sc f := by
  unfold sc
  rw [← kscale_eq_rscale (amax_nonneg f hN), ← hv]
  unfold kscale
  rw [← r3]
  rfl

theorem r2 (v : Vec Ideal S512x1 .f32) (h : Vec Ideal S512x10240 .f32) (r : Fin 512) (c : Fin 10240) (f : Fin 10240 → EReal)
    (hv : v (ix2 r (0 : Fin 1)) = amax f) (hh : h (ix2 r c) = f c) :
    k1_pay2 (F := Ideal) (k1_pay5 (F := Ideal) v) h (ix2 r c) = qt f c := by
  refine (clampm (M := 512) (K := 10240) h (k1_pay5 (F := Ideal) v) broadcasts_S512x1_S512x10240 bitsLt_fp8e4m3_f32 r c).trans ?_
  have e : k1_pay5 (F := Ideal) v (ix2 r (0 : Fin 1)) = kinv (amax f) := by
    rw [← hv]
    unfold kinv
    rw [← r3]
    rfl
  rw [e, hh, mul_kinv (amax_nonneg f (by omega))]
  rfl

end Cert.KernelIdeal.Value
-- ==== Proof.Ideal.Value0.lean ====
/-
  What the quantising call leaves in its two arrays, over the reals.
-/
module

public import proofs.«01_k».proof.Proof.Ideal.Region0
public import proofs.«01_k».proof.Proof.Ideal.KerRead
public import Idealize.ShloMosaic.Lib.Pipeline.ValueKit

@[expose] public section

set_option maxRecDepth 16384

noncomputable section

namespace Cert.KernelIdeal.Value

open Cert.KernelIdeal Cert.KernelIdeal.Gen Cert.KernelIdeal.Run
open Idealize.ShloMosaic hiding ix2 eq_ix2
open Idealize.ShloMosaic.TcCoe Idealize.ShloMosaic.ValueIdx Cert.Scale Cert.Read Cert.Spec

variable (V : (c : Dev nD) → (b : Ref sig .tc) → Buf (Elt Ideal) ((c : Thread nD τ).loc b))

theorem e0_0 : ∀ t : Fin cfg0.N, win0_0.index t = ![t.val, 0] := (by decide +kernel : ∀ t : Fin grid0.N, win0_0.index t = ![t.val, 0])
theorem e0_1 : ∀ t : Fin cfg0.N, win0_1.index t = ![t.val, 0] := (by decide +kernel : ∀ t : Fin grid0.N, win0_1.index t = ![t.val, 0])
theorem e0_2 : ∀ t : Fin cfg0.N, win0_2.index t = ![t.val, 0] := (by decide +kernel : ∀ t : Fin grid0.N, win0_2.index t = ![t.val, 0])

theorem z2' : (![0, 0] : Fin 2 → Nat) = fun _ => 0 := funext fun a => by fin_cases a <;> rfl

theorem iblk0_row (c : Dev nD) (t : Fin cfg0.N) (r : Fin 256) (R : Fin 3072) (hR : R.val = t.val * 256 + r.val) :
    brow (iblk0 V c 0 t) r = rowOf (V c main_v0) R := by
  funext k
  unfold brow rowOf iblk0
  refine congrArg (V c main_v0) (funext fun a => Fin.ext ?_)
  match a with
  | ⟨0, _⟩ => blk_simp [e0_0]; exact hR.symm
  | ⟨1, _⟩ => blk_simp [e0_0]

theorem out0_1_eq (x : Vec Ideal S256x7168 .bf16) (r : Fin 256) (k : Fin 7168) : out0_1 x (ix2 r k) = qt (brow x r) k := by
  unfold out0_1
  have h := View.canon_unit_zero (Val := Elt Ideal) (e := .fp8e4m3) (S := S256x7168) z2' inb_S256x7168_S256x7168_0_0
    (k0_pay1 (k0_pay2 (View.ld x r0_0)) (k0_pay5 (View.ld x r0_0)))
  have hl : View.ld x r0_0 = x := View.ld_unit_zero (Val := Elt Ideal) (e := .bf16) (S := S256x7168) z2' inb_S256x7168_S256x7168_0_0 x
  rw [hl] at h
  rw [hl]
  refine (congrFun h _).trans ?_
  exact q1 x r k

theorem out0_2_eq (x : Vec Ideal S256x7168 .bf16) (r : Fin 256) : out0_2 x (ix2 r (0 : Fin 1)) = sc (brow x r) := by
  unfold out0_2
  have h := View.canon_unit_zero (Val := Elt Ideal) (e := .f32) (S := S256x1) z2' inb_S256x1_S256x1_0_0
    (k0_pay4 (View.ld x r0_0))
  have hl : View.ld x r0_0 = x := View.ld_unit_zero (Val := Elt Ideal) (e := .bf16) (S := S256x7168) z2' inb_S256x7168_S256x7168_0_0 x
  rw [hl] at h
  rw [hl]
  refine (congrFun h _).trans ?_
  exact q4 x r

theorem arr0_1 (c : Dev nD) : (dat0 V c).arrAt 1 cfg0.N = resXC (V c main_v0) := by
  refine (dat0 V c).arrAt_eq_of_covers 1 _ (by decide +kernel) fun t hf y => ?_
  blk_simp
  rw [after0_1, eq_ix2 y]
  refine (out0_1_eq (iblk0 V c 0 t) (y 0) (y 1)).trans ?_
  unfold resXC
  rw [iblk0_row V c t (y 0) ((win0_1.blk t).view.emb (ix2 (y 0) (y 1)) 0) (by blk_simp [e0_1]; rfl)]
  refine congrArg (qt _) (Fin.ext ?_)
  blk_simp [e0_1]

theorem arr0_2 (c : Dev nD) : (dat0 V c).arrAt 2 cfg0.N = resXS (V c main_v0) := by
  refine (dat0 V c).arrAt_eq_of_covers 2 _ (by decide +kernel) fun t hf y => ?_
  blk_simp
  rw [after0_2, idx1 (M := 256) y]
  refine (out0_2_eq (iblk0 V c 0 t) (y 0)).trans ?_
  unfold resXS
  rw [iblk0_row V c t (y 0) ((win0_2.blk t).view.emb (ix2 (y 0) (0 : Fin 1)) 0) (by blk_simp [e0_2]; rfl)]
  rfl

end Cert.KernelIdeal.Value
-- ==== Proof.Ideal.Value1.lean ====
/-
  What the gate/up call leaves in its two arrays, over the reals.
-/
module

public import proofs.«01_k».proof.Proof.Ideal.Region1
public import proofs.«01_k».proof.Proof.Ideal.KerRead
public import Idealize.ShloMosaic.Lib.Pipeline.ValueKit

@[expose] public section

set_option maxRecDepth 16384

noncomputable section

namespace Cert.KernelIdeal.Value

open Cert.KernelIdeal Cert.KernelIdeal.Gen Cert.KernelIdeal.Run
open Idealize.ShloMosaic hiding ix2 eq_ix2
open Idealize.ShloMosaic.TcCoe Idealize.ShloMosaic.ValueIdx Cert.Scale Cert.Read Cert.Spec

variable (V : (c : Dev nD) → (b : Ref sig .tc) → Buf (Elt Ideal) ((c : Thread nD τ).loc b))

theorem e1_0 : ∀ t : Fin cfg1.N, win1_0.index t = ![t.val / 40, 0] := (by decide +kernel : ∀ t : Fin grid1.N, win1_0.index t = ![t.val / 40, 0])
theorem e1_1 : ∀ t : Fin cfg1.N, win1_1.index t = ![t.val / 40, 0] := (by decide +kernel : ∀ t : Fin grid1.N, win1_1.index t = ![t.val / 40, 0])
theorem e1_2 : ∀ t : Fin cfg1.N, win1_2.index t = ![0, t.val % 40] := (by decide +kernel : ∀ t : Fin grid1.N, win1_2.index t = ![0, t.val % 40])
theorem e1_3 : ∀ t : Fin cfg1.N, win1_3.index t = ![0, t.val % 40 + 40] := (by decide +kernel : ∀ t : Fin grid1.N, win1_3.index t = ![0, t.val % 40 + 40])
theorem e1_4 : ∀ t : Fin cfg1.N, win1_4.index t = ![0, t.val % 40] := (by decide +kernel : ∀ t : Fin grid1.N, win1_4.index t = ![0, t.val % 40])
theorem e1_5 : ∀ t : Fin cfg1.N, win1_5.index t = ![0, t.val % 40 + 40] := (by decide +kernel : ∀ t : Fin grid1.N, win1_5.index t = ![0, t.val % 40 + 40])
theorem e1_6 : ∀ t : Fin cfg1.N, win1_6.index t = ![t.val / 40, 0] := (by decide +kernel : ∀ t : Fin grid1.N, win1_6.index t = ![t.val / 40, 0])
theorem e1_7 : ∀ t : Fin cfg1.N, win1_7.index t = ![t.val / 40, 0] := (by decide +kernel : ∀ t : Fin grid1.N, win1_7.index t = ![t.val / 40, 0])
theorem f1_6 : ∀ t : Fin cfg1.N, (cfg1.win 6).flush t = true → t.val % 40 = 39 := (by decide +kernel : ∀ t : Fin grid1.N, (cfg1.win 6).flush t = true → t.val % 40 = 39)
theorem f1_7 : ∀ t : Fin cfg1.N, (cfg1.win 7).flush t = true → t.val % 40 = 39 := (by decide +kernel : ∀ t : Fin grid1.N, (cfg1.win 7).flush t = true → t.val % 40 = 39)

/-! ## The input blocks -/

theorem blk1_0 (c : Dev nD) (t : Fin cfg1.N) (r : Fin 512) (R : Fin 3072) (hR : R.val = t.val / 40 * 512 + r.val) (k : Fin 7168) :
    iblk1 V c 0 t (ix2 r k) = V c main_v1_0 (ix2 R k) := by
  unfold iblk1
  refine congrArg (V c main_v1_0) (funext fun a => Fin.ext ?_)
  match a with
  | ⟨0, _⟩ => blk_simp [e1_0]; exact hR.symm
  | ⟨1, _⟩ => blk_simp [e1_0]

theorem blk1_1 (c : Dev nD) (t : Fin cfg1.N) (r : Fin 512) (R : Fin 3072) (hR : R.val = t.val / 40 * 512 + r.val) :
    iblk1 V c 1 t (ix2 r (0 : Fin 1)) = V c main_v1_1 (ix2 R (0 : Fin 1)) := by
  unfold iblk1
  refine congrArg (V c main_v1_1) (funext fun a => Fin.ext ?_)
  match a with
  | ⟨0, _⟩ => blk_simp [e1_1]; exact hR.symm
  | ⟨1, _⟩ => blk_simp [e1_1]

theorem blk1_2 (c : Dev nD) (t : Fin cfg1.N) (j : Fin 256) (C : Fin 10240) (hC : C.val = t.val % 40 * 256 + j.val) (k : Fin 7168) :
    iblk1 V c 2 t (ix2 k j) = wcol (V c main_arg1) 0 (by omega) C k := by
  unfold iblk1 wcol
  refine congrArg (V c main_arg1) (funext fun a => Fin.ext ?_)
  match a with
  | ⟨0, _⟩ => blk_simp [e1_2]
  | ⟨1, _⟩ => blk_simp [e1_2]; show t.val % 40 * 256 + j.val = _; simp only [Nat.zero_add]; exact hC.symm

theorem blk1_3 (c : Dev nD) (t : Fin cfg1.N) (j : Fin 256) (C : Fin 10240) (hC : C.val = t.val % 40 * 256 + j.val) (k : Fin 7168) :
    iblk1 V c 3 t (ix2 k j) = wcol (V c main_arg1) 10240 (by omega) C k := by
  unfold iblk1 wcol
  refine congrArg (V c main_arg1) (funext fun a => Fin.ext ?_)
  match a with
  | ⟨0, _⟩ => blk_simp [e1_3]
  | ⟨1, _⟩ => blk_simp [e1_3]; show (t.val % 40 + 40) * 256 + j.val = 10240 + C.val; omega

theorem blk1_4 (c : Dev nD) (t : Fin cfg1.N) (j : Fin 256) (C : Fin 10240) (hC : C.val = t.val % 40 * 256 + j.val) :
    iblk1 V c 4 t (ix2 (0 : Fin 1) j) = scol (V c main_v2) 0 (by omega) C := by
  unfold iblk1 scol
  refine congrArg (V c main_v2) (funext fun a => Fin.ext ?_)
  match a with
  | ⟨0, _⟩ => blk_simp [e1_4]
  | ⟨1, _⟩ => blk_simp [e1_4]; show t.val % 40 * 256 + j.val = _; simp only [Nat.zero_add]; exact hC.symm

theorem blk1_5 (c : Dev nD) (t : Fin cfg1.N) (j : Fin 256) (C : Fin 10240) (hC : C.val = t.val % 40 * 256 + j.val) :
    iblk1 V c 5 t (ix2 (0 : Fin 1) j) = scol (V c main_v2) 10240 (by omega) C := by
  unfold iblk1 scol
  refine congrArg (V c main_v2) (funext fun a => Fin.ext ?_)
  match a with
  | ⟨0, _⟩ => blk_simp [e1_5]
  | ⟨1, _⟩ => blk_simp [e1_5]; show (t.val % 40 + 40) * 256 + j.val = 10240 + C.val; omega

/-! ## A block of the gated product, and its row maxima -/

variable (X : FVec Ideal ⟨2, ![3072, 7168]⟩ .bf16)

theorem kprod_eq (f : Fin 7168 → EReal) (w : Fin 7168 → EReal) (s : EReal) (a : Fin 7168 → EReal) (b : EReal)
    (ha : ∀ k, a k = qt f k) (hb : b = sc f) (v : Fin 7168 → EReal) (hv : ∀ k, v k = w k) (u : EReal) (hu : u = s) :
    kprod a v b u = prod f w s := by
  obtain rfl : a = qt f := funext ha
  obtain rfl : v = w := funext hv
  subst hb hu
  rfl

theorem pay6_at (c : Dev nD) (h0 : V c main_v1_0 = resXC X) (h1 : V c main_v1_1 = resXS X) (t : Fin cfg1.N) (r : Fin 512) (j : Fin 256)
    (R : Fin 3072) (hR : R.val = t.val / 40 * 512 + r.val) (C : Fin 10240) (hC : C.val = t.val % 40 * 256 + j.val) :
    k1_pay6 (F := Ideal) (iblk1 V c 0 t) (iblk1 V c 1 t) (iblk1 V c 2 t) (iblk1 V c 3 t) (iblk1 V c 4 t) (iblk1 V c 5 t) (ix2 r j)
      = hrowOf X (V c main_arg1) (V c main_v2) R C := by
  refine (r6 _ _ _ _ _ _ r j).trans ?_
  have ha : ∀ k : Fin 7168, iblk1 V c 0 t (ix2 r k) = qt (rowOf X R) k := fun k =>
    (blk1_0 V c t r R hR k).trans (by rw [h0]; rfl)
  have hb : iblk1 V c 1 t (ix2 r (0 : Fin 1)) = sc (rowOf X R) := (blk1_1 V c t r R hR).trans (by rw [h1]; rfl)
  unfold hrowOf hid
  exact congrArg₂ gated (kprod_eq _ _ _ _ _ ha hb _ (blk1_2 V c t j C hC) _ (blk1_4 V c t j C hC))
    (kprod_eq _ _ _ _ _ ha hb _ (blk1_3 V c t j C hC) _ (blk1_5 V c t j C hC))

theorem hblk_at (c : Dev nD) (h0 : V c main_v1_0 = resXC X) (h1 : V c main_v1_1 = resXS X) (t : Fin cfg1.N) (r : Fin 512) (j : Fin 256)
    (R : Fin 3072) (hR : R.val = t.val / 40 * 512 + r.val) (C : Fin 10240) (hC : C.val = t.val % 40 * 256 + j.val) :
    hblk V c t (ix2 r j) = hrowOf X (V c main_arg1) (V c main_v2) R C := by
  unfold hblk
  rw [r7]
  exact pay6_at V X c h0 h1 t r j R hR C hC

theorem bmx_le (c : Dev nD) (h0 : V c main_v1_0 = resXC X) (h1 : V c main_v1_1 = resXS X) (t : Fin cfg1.N) (r : Fin 512)
    (R : Fin 3072) (hR : R.val = t.val / 40 * 512 + r.val) (b : EReal) :
    bmx V c t (ix2 r (0 : Fin 1)) ≤ b ↔ ∀ C : Fin 10240, C.val / 256 = t.val % 40 →
      max (hrowOf X (V c main_arg1) (V c main_v2) R C) (-(hrowOf X (V c main_arg1) (V c main_v2) R C)) ≤ b := by
  unfold bmx
  rw [r8, amax_le]
  have ht := lt240 t
  constructor
  · intro h C hC
    have e := pay6_at V X c h0 h1 t r (⟨C.val % 256, by omega⟩ : Fin 256) R hR C (by show C.val = t.val % 40 * 256 + C.val % 256; omega)
    rw [← e]
    exact h _
  · intro h j
    have hj := j.isLt
    have e := pay6_at V X c h0 h1 t r j R hR (⟨t.val % 40 * 256 + j.val, by omega⟩ : Fin 10240) rfl
    rw [e]
    exact h _ (by show (t.val % 40 * 256 + j.val) / 256 = t.val % 40; omega)

/-- The running maximum after a point: over the columns so far. -/
theorem amx_le (c : Dev nD) (h0 : V c main_v1_0 = resXC X) (h1 : V c main_v1_1 = resXS X) (r : Fin 512) (b : EReal) (n : ℕ) :
    ∀ t : Fin cfg1.N, t.val % 40 = n → ∀ R : Fin 3072, R.val = t.val / 40 * 512 + r.val →
    (amx V c t (ix2 r (0 : Fin 1)) ≤ b ↔ ∀ C : Fin 10240, C.val / 256 ≤ n →
      max (hrowOf X (V c main_arg1) (V c main_v2) R C) (-(hrowOf X (V c main_arg1) (V c main_v2) R C)) ≤ b) := by
  induction n with
  | zero =>
    intro t ht R hR
    have e : amx V c t = bmx V c t := (amx_first V c t ht).trans (r9 _ _ _ _ _ _)
    rw [e, bmx_le V X c h0 h1 t r R hR b, ht]
    simp only [Nat.le_zero]
  | succ n ih =>
    intro t ht R hR
    have hN := lt240 t
    let u : Fin cfg1.N := ⟨t.val - 1, mk240 (by omega)⟩
    have hu : u.val + 1 = t.val := by show t.val - 1 + 1 = t.val; omega
    rw [amx_next V c t u hu (by omega), r1, max_le_iff, ih u (by omega) R (by omega), bmx_le V X c h0 h1 t r R hR b, ht]
    constructor
    · rintro ⟨ha, hb⟩ C hC
      by_cases h : C.val / 256 ≤ n
      · exact ha C h
      · exact hb C (by omega)
    · intro h
      exact ⟨fun C hC => h C (by omega), fun C hC => h C (by omega)⟩

theorem amx_last (c : Dev nD) (h0 : V c main_v1_0 = resXC X) (h1 : V c main_v1_1 = resXS X) (t : Fin cfg1.N) (ht : t.val % 40 = 39)
    (r : Fin 512) (R : Fin 3072) (hR : R.val = t.val / 40 * 512 + r.val) :
    amx V c t (ix2 r (0 : Fin 1)) = amax (hrowOf X (V c main_arg1) (V c main_v2) R) := by
  refine eq_of_forall_ge_iff fun b => ?_
  rw [amx_le V X c h0 h1 r b 39 t ht R hR, amax_le]
  exact ⟨fun h C => h C (by have := C.isLt; omega), fun h C _ => h C⟩

theorem hrow_at (c : Dev nD) (h0 : V c main_v1_0 = resXC X) (h1 : V c main_v1_1 = resXS X) (t : Fin cfg1.N)
    (r : Fin 512) (R : Fin 3072) (hR : R.val = t.val / 40 * 512 + r.val) (C : Fin 10240) :
    hrow V c t (ix2 r C) = hrowOf X (V c main_arg1) (V c main_v2) R C := by
  unfold hrow
  have hN := lt240 t
  have hr := r.isLt
  have hc := C.isLt
  have e : loc1 (ix2 r C) = ix2 r (⟨C.val % 256, by omega⟩ : Fin 256) := by
    funext a
    apply Fin.ext
    match a with
    | ⟨0, _⟩ => show r.val % 512 = r.val; omega
    | ⟨1, _⟩ => rfl
  have hp : (pt1 t (ix2 r C)).val = 40 * (t.val / 40) + C.val / 256 := rfl
  rw [e]
  exact hblk_at V X c h0 h1 _ r _ R (by rw [hp]; omega) C (by rw [hp]; show C.val = _ + C.val % 256; omega)

/-! ## The two arrays -/

theorem arr1_6 (c : Dev nD) (h0 : V c main_v1_0 = resXC X) (h1 : V c main_v1_1 = resXS X) :
    (dat1 V c).arrAt 6 cfg1.N = resHC X (V c main_arg1) (V c main_v2) := by
  refine (dat1 V c).arrAt_eq_of_covers 6 _ (by decide +kernel) fun t hf y => ?_
  have ht := f1_6 t hf
  blk_simp
  rw [after1_6, eq_ix2 y]
  have hR : ((win1_6.blk t).view.emb (ix2 (y 0) (y 1)) 0).val = t.val / 40 * 512 + (y 0).val := by blk_simp [e1_6]; rfl
  have hC : (win1_6.blk t).view.emb (ix2 (y 0) (y 1)) 1 = y 1 := Fin.ext (by blk_simp [e1_6]; rfl)
  refine (r2 (amx V c t) (hrow V c t) (y 0) (y 1) _ (amx_last V X c h0 h1 t ht (y 0) _ hR) (hrow_at V X c h0 h1 t (y 0) _ hR (y 1))).trans ?_
  exact congrArg (qt _) hC.symm

theorem arr1_7 (c : Dev nD) (h0 : V c main_v1_0 = resXC X) (h1 : V c main_v1_1 = resXS X) :
    (dat1 V c).arrAt 7 cfg1.N = resHS X (V c main_arg1) (V c main_v2) := by
  refine (dat1 V c).arrAt_eq_of_covers 7 _ (by decide +kernel) fun t hf y => ?_
  have ht := f1_7 t hf
  blk_simp
  rw [after1_7, idx1 (M := 512) y]
  have hR : ((win1_7.blk t).view.emb (ix2 (y 0) (0 : Fin 1)) 0).val = t.val / 40 * 512 + (y 0).val := by blk_simp [e1_7]; rfl
  refine (r4 (amx V c t) (y 0) _ (by omega) (amx_last V X c h0 h1 t ht (y 0) _ hR)).trans ?_
  rfl

end Cert.KernelIdeal.Value
-- ==== Proof.Ideal.KerValue.lean ====
/-
  What the kernel's four results end holding, over the reals.
-/
module

public import proofs.«01_k».proof.Proof.Ideal.Run
public import proofs.«01_k».proof.Proof.Ideal.Value0
public import proofs.«01_k».proof.Proof.Ideal.Value1
public import Idealize.ShloMosaic.Lib.Claim

@[expose] public section

set_option maxRecDepth 16384

noncomputable section

namespace Cert.KernelIdeal.Value

open Cert.KernelIdeal Cert.KernelIdeal.Gen Cert.KernelIdeal.Run
open Idealize.ShloMosaic hiding ix2 eq_ix2
open Idealize.ShloMosaic.TcCoe Idealize.ShloMosaic.ValueIdx Cert.Scale Cert.Read Cert.Spec

variable (m : (ℓ : Loc nD τ sig) → Buf (Elt Ideal) ℓ) (ρ : Dev nD → PrngReg)

/-- The arguments, as the calls read them. -/
def xA (c : Dev nD) : FVec Ideal ⟨2, ![3072, 7168]⟩ .bf16 :=
  shapeCast S3072x7168 (m ((c : Thread nD τ).loc main_arg0) : S4x768x7168.Idx → Ideal .bf16) shapeCasts_S4x768x7168_S3072x7168
def wA (c : Dev nD) : FVec Ideal ⟨2, ![7168, 20480]⟩ .fp8e4m3 := m ((c : Thread nD τ).loc main_arg1)
def sA (c : Dev nD) : FVec Ideal ⟨2, ![1, 20480]⟩ .f32 :=
  shapeCast S1x20480 (m ((c : Thread nD τ).loc main_arg2) : S20480.Idx → Ideal .f32) shapeCasts_S20480_S1x20480

theorem V1_v0 (c : Dev nD) : V1 m ρ c main_v0 = xA m c := by
  show StableHlo.after hostOps0 (W0 m ρ c) (Proc.devRef .tc main_v0) = _
  after_results
  rfl

theorem W2_v1_0 (c : Dev nD) : W2 m ρ c (Proc.devRef .tc main_v1_0) = resXC (xA m c) :=
  (W2_arr m ρ c 1).trans ((arr0_1 (V1 m ρ) c).trans (congrArg resXC (V1_v0 m ρ c)))
theorem W2_v1_1 (c : Dev nD) : W2 m ρ c (Proc.devRef .tc main_v1_1) = resXS (xA m c) :=
  (W2_arr m ρ c 2).trans ((arr0_2 (V1 m ρ) c).trans (congrArg resXS (V1_v0 m ρ c)))
theorem V3_v1_0 (c : Dev nD) : V3 m ρ c main_v1_0 = resXC (xA m c) :=
  (W3_of m ρ c main_v1_0 (by decide)).trans (W2_v1_0 m ρ c)
theorem V3_v1_1 (c : Dev nD) : V3 m ρ c main_v1_1 = resXS (xA m c) :=
  (W3_of m ρ c main_v1_1 (by decide)).trans (W2_v1_1 m ρ c)
theorem V3_arg1 (c : Dev nD) : V3 m ρ c main_arg1 = wA m c := W3_args m ρ c main_arg1 (by decide)
theorem V3_v2 (c : Dev nD) : V3 m ρ c main_v2 = sA m c := by
  have h : W2 m ρ c (Proc.devRef .tc main_arg2) = m ((c : Thread nD τ).loc main_arg2) := W2_args m ρ c main_arg2 (by decide)
  show StableHlo.after hostOps1 (W2 m ρ c) (Proc.devRef .tc main_v2) = _
  after_results
  rw [h]
  rfl

theorem W4_v3_0 (c : Dev nD) : W4 m ρ c (Proc.devRef .tc main_v3_0) = resHC (xA m c) (wA m c) (sA m c) := by
  refine (W4_arr m ρ c 6).trans ((arr1_6 (V3 m ρ) (xA m c) c (V3_v1_0 m ρ c) (V3_v1_1 m ρ c)).trans ?_)
  rw [V3_arg1, V3_v2]
theorem W4_v3_1 (c : Dev nD) : W4 m ρ c (Proc.devRef .tc main_v3_1) = resHS (xA m c) (wA m c) (sA m c) := by
  refine (W4_arr m ρ c 7).trans ((arr1_7 (V3 m ρ) (xA m c) c (V3_v1_0 m ρ c) (V3_v1_1 m ρ c)).trans ?_)
  rw [V3_arg1, V3_v2]
theorem W4_v1_0 (c : Dev nD) : W4 m ρ c (Proc.devRef .tc main_v1_0) = resXC (xA m c) :=
  (W4_of m ρ c main_v1_0 (by decide +kernel)).trans (V3_v1_0 m ρ c)
theorem W4_v1_1 (c : Dev nD) : W4 m ρ c (Proc.devRef .tc main_v1_1) = resXS (xA m c) :=
  (W4_of m ρ c main_v1_1 (by decide +kernel)).trans (V3_v1_1 m ρ c)

/-! ## The results -/

def hsA (c : Dev nD) : FVec Ideal S4x768x1 .f32 :=
  shapeCast S4x768x1 (resHS (xA m c) (wA m c) (sA m c)) shapeCasts_S3072x1_S4x768x1
def hcA (c : Dev nD) : FVec Ideal S4x768x10240 .fp8e4m3 :=
  shapeCast S4x768x10240 (resHC (xA m c) (wA m c) (sA m c)) shapeCasts_S3072x10240_S4x768x10240
def xcA (c : Dev nD) : FVec Ideal S4x768x7168 .fp8e4m3 :=
  shapeCast S4x768x7168 (resXC (xA m c)) shapeCasts_S3072x7168_S4x768x7168
def xsA (c : Dev nD) : FVec Ideal S4x768x1 .f32 :=
  shapeCast S4x768x1 (resXS (xA m c)) shapeCasts_S3072x1_S4x768x1

theorem W5_v4 (c : Dev nD) : W5 m ρ c (Proc.devRef .tc main_v4) = hsA m c := by
  show StableHlo.after hostOps2 (W4 m ρ c) (Proc.devRef .tc main_v4) = _
  after_results
  rw [W4_v3_1]
  rfl
theorem W5_v5 (c : Dev nD) : W5 m ρ c (Proc.devRef .tc main_v5) = hcA m c := by
  show StableHlo.after hostOps2 (W4 m ρ c) (Proc.devRef .tc main_v5) = _
  after_results
  rw [W4_v3_0]
  rfl
theorem W5_v6 (c : Dev nD) : W5 m ρ c (Proc.devRef .tc main_v6) = xcA m c := by
  show StableHlo.after hostOps2 (W4 m ρ c) (Proc.devRef .tc main_v6) = _
  after_results
  rw [W4_v1_0]
  rfl
theorem W5_v7 (c : Dev nD) : W5 m ρ c (Proc.devRef .tc main_v7) = xsA m c := by
  show StableHlo.after hostOps2 (W4 m ρ c) (Proc.devRef .tc main_v7) = _
  after_results
  rw [W4_v1_1]
  rfl

/-- The run: each result ends at its value, the arguments as launched. -/
theorem run : θ_run defs (onTc (τ := τ) (main (F := Ideal))) ⟨m, fun _ => 0, ρ⟩ (fun r => ∀ c : Dev nD,
      r.2.mem ((c.tc : Thread nD τ).loc main_v4) = hsA m c
      ∧ r.2.mem ((c.tc : Thread nD τ).loc main_v5) = hcA m c
      ∧ r.2.mem ((c.tc : Thread nD τ).loc main_v6) = xcA m c
      ∧ r.2.mem ((c.tc : Thread nD τ).loc main_v7) = xsA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨(h.1 c _ (mem_uc main_v4 (by decide))).trans (W5_v4 m ρ c),
       (h.1 c _ (mem_uc main_v5 (by decide))).trans (W5_v5 m ρ c),
       (h.1 c _ (mem_uc main_v6 (by decide))).trans (W5_v6 m ρ c),
       (h.1 c _ (mem_uc main_v7 (by decide))).trans (W5_v7 m ρ c),
       (h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c)⟩) (Run.run m ρ)

end Cert.KernelIdeal.Value
-- ==== Proof.Ideal.RefRead.lean ====
/-
  What the reference's body computes, read at an index.
-/
module

public import proofs.«01_k».proof.Proof.Ideal.Spec
public import proofs.«01_k».proof.Proof.Gen.ReferenceIdeal.Skeleton

@[expose] public section

set_option maxRecDepth 16384

noncomputable section

namespace Cert.ReferenceIdeal.Value

open Cert.ReferenceIdeal Cert.ReferenceIdeal.Gen
open Idealize.ShloMosaic Idealize.ShloMosaic.ValueIdx Cert.Scale Cert.Read Cert.Spec

theorem p1 (x : Vec Ideal S3072x7168 .bf16) : k0_pay1 (F := Ideal) x = x := by
  unfold k0_pay1
  rw [shapeCast_self]
  rfl

theorem p2 (x : Vec Ideal S3072x7168 .bf16) (r : Fin 3072) : k0_pay2 (F := Ideal) x (ix2 r (0 : Fin 1)) = sc (rowOf x r) := by
  have e : k0_pay2 (F := Ideal) x = rsv (M := 3072) (K := 7168) (k0_pay1 (F := Ideal) x) (.inl rfl) rfl rfl reduces_S3072x7168_S3072
      reduces_S3072x252_S3072 shapeCasts_S3072_S3072x1 iota_S1x252_d1_w32 broadcasts_S3072x1_S3072x252
      broadcasts_S1x252_S3072x252 shapeCasts_S1x252_S1x252 := rfl
  refine (congrFun e _).trans ((rsv_apply _ _ _ _ _ _ _ _ _ _ _ r).trans ?_)
  rw [p1]
  rfl

theorem p3 (x : Vec Ideal S3072x7168 .bf16) (r : Fin 3072) (k : Fin 7168) :
    k0_pay3 (F := Ideal) x (ix2 r k) = qt (rowOf x r) k := by
  refine (clampv (M := 3072) (K := 7168) (k0_pay1 (F := Ideal) x) (k0_pay2 (F := Ideal) x) broadcasts_S3072x1_S3072x7168 bitsLt_fp8e4m3_f32 r k).trans ?_
  rw [p1, p2]
  rfl

theorem dot_plain : dot_S3072x7168_S7168x20480_S3072x20480_1_0_0_1_n_n = DotDims.plain 3072 7168 20480 := rfl

theorem p4 (x : Vec Ideal S3072x7168 .bf16) (w : Vec Ideal S7168x20480 .fp8e4m3) (r : Fin 3072) (j : Fin 20480) :
    k0_pay4 (F := Ideal) x w (ix2 r j)
      = (Ideal.ofBits .f32 0x00000000#32 + ∑ k : Fin 7168, qt (rowOf x r) k * w (ix2 k j)) * sc (rowOf x r) := by
  refine (mmv (M := 3072) (K := 7168) (N := 20480) _ dot_plain (k0_pay3 (F := Ideal) x) w (k0_pay2 (F := Ideal) x)
    broadcasts_S3072x1_S3072x20480 r j).trans ?_
  rw [p2]
  refine congrArg (fun f : Fin 7168 → EReal => (Ideal.ofBits .f32 0x00000000#32 + ∑ k : Fin 7168, f k) * sc (rowOf x r)) (funext fun k => ?_)
  rw [p3]

theorem p5 (s : Vec Ideal S1x20480 .f32) (r : Fin 3072) (j : Fin 20480) :
    k0_pay5 (F := Ideal) s (ix2 r j) = s (ix2 (0 : Fin 1) j) := by
  unfold k0_pay5
  rw [shapeCast_self]
  exact broadcastTo_1b_ab_apply (a := 3072) (b := 20480) s broadcasts_S1x20480_S3072x20480 r j

theorem p43 (x : Vec Ideal S3072x7168 .bf16) (w : Vec Ideal S7168x20480 .fp8e4m3) (s : Vec Ideal S1x20480 .f32) (r : Fin 3072) (j : Fin 20480) :
    mulf (F := Ideal) (k0_pay4 (F := Ideal) x w) (k0_pay5 (F := Ideal) s) (ix2 r j)
      = prod (rowOf x r) (fun k => w (ix2 k j)) (s (ix2 (0 : Fin 1) j)) := by
  rw [mulf, p4, p5]
  rfl

theorem p6 (x : Vec Ideal S3072x7168 .bf16) (w : Vec Ideal S7168x20480 .fp8e4m3) (s : Vec Ideal S1x20480 .f32) (r : Fin 3072) (c : Fin 10240) :
    k0_pay6 (F := Ideal) (k0_pay4 (F := Ideal) x w) (k0_pay5 (F := Ideal) s) (ix2 r c) = hrowOf x w s r c := by
  refine (gatev (M := 3072) (N := 10240) (L := 20480) (mulf (F := Ideal) (k0_pay4 (F := Ideal) x w) (k0_pay5 (F := Ideal) s)) 10240
    slices_S3072x20480_o0_0_S3072x10240 slices_S3072x20480_o0_10240_S3072x10240 r c ⟨0 + c.val, by omega⟩ ⟨10240 + c.val, by omega⟩ rfl rfl).trans ?_
  rw [p43, p43]
  rfl

theorem p7 (x : Vec Ideal S3072x7168 .bf16) (w : Vec Ideal S7168x20480 .fp8e4m3) (s : Vec Ideal S1x20480 .f32) (r : Fin 3072) :
    k0_pay7 (F := Ideal) (k0_pay4 (F := Ideal) x w) (k0_pay5 (F := Ideal) s) (ix2 r (0 : Fin 1)) = sc (hrowOf x w s r) := by
  have e : k0_pay7 (F := Ideal) (k0_pay4 (F := Ideal) x w) (k0_pay5 (F := Ideal) s)
      = rsv (M := 3072) (K := 10240) (k0_pay6 (F := Ideal) (k0_pay4 (F := Ideal) x w) (k0_pay5 (F := Ideal) s)) (.inl rfl) rfl rfl reduces_S3072x10240_S3072
      reduces_S3072x252_S3072 shapeCasts_S3072_S3072x1 iota_S1x252_d1_w32 broadcasts_S3072x1_S3072x252
      broadcasts_S1x252_S3072x252 shapeCasts_S1x252_S1x252 := rfl
  refine (congrFun e _).trans ((rsv_apply _ _ _ _ _ _ _ _ _ _ _ r).trans ?_)
  exact congrArg (fun f : Fin 10240 → EReal => rscale (amax f)) (funext fun k => p6 x w s r k)

theorem p8 (x : Vec Ideal S3072x7168 .bf16) (w : Vec Ideal S7168x20480 .fp8e4m3) (s : Vec Ideal S1x20480 .f32) (r : Fin 3072) (c : Fin 10240) :
    k0_pay8 (F := Ideal) (k0_pay4 (F := Ideal) x w) (k0_pay5 (F := Ideal) s) (ix2 r c) = qt (hrowOf x w s r) c := by
  refine (clampv (M := 3072) (K := 10240) (k0_pay6 (F := Ideal) (k0_pay4 (F := Ideal) x w) (k0_pay5 (F := Ideal) s))
    (k0_pay7 (F := Ideal) (k0_pay4 (F := Ideal) x w) (k0_pay5 (F := Ideal) s)) broadcasts_S3072x1_S3072x10240 bitsLt_fp8e4m3_f32 r c).trans ?_
  rw [p6, p7]
  rfl

end Cert.ReferenceIdeal.Value
-- ==== Proof.Ideal.RefValue.lean ====
/-
  What the reference's four results end holding, over the reals.
-/
module

public import proofs.«01_k».proof.Proof.Ideal.RefRead
public import proofs.«01_k».proof.Proof.Gen.ReferenceIdeal.Frame
public import Idealize.ShloMosaic.Lib.Pipeline.ValueKit
public import Idealize.ShloMosaic.Lib.Claim

@[expose] public section

set_option maxRecDepth 16384

noncomputable section

namespace Cert.ReferenceIdeal.Value

open Cert.ReferenceIdeal Cert.ReferenceIdeal.Gen
open Idealize.ShloMosaic hiding ix2 eq_ix2
open Idealize.ShloMosaic.TcCoe Idealize.ShloMosaic.ValueIdx Cert.Scale Cert.Read Cert.Spec

variable (m : (ℓ : Loc nD τ sig) → Buf (Elt Ideal) ℓ) (ρ : Dev nD → PrngReg)

theorem z2' : (![0, 0] : Fin 2 → Nat) = fun _ => 0 := funext fun a => by fin_cases a <;> rfl

theorem lx (x : Vec Ideal S3072x7168 .bf16) : View.ld x r0_0 = x :=
  View.ld_unit_zero (Val := Elt Ideal) (e := .bf16) (S := S3072x7168) z2' inb_S3072x7168_S3072x7168_0_0 x
theorem lw (x : Vec Ideal S7168x20480 .fp8e4m3) : View.ld x r0_1 = x :=
  View.ld_unit_zero (Val := Elt Ideal) (e := .fp8e4m3) (S := S7168x20480) z2' inb_S7168x20480_S7168x20480_0_0 x
theorem ls (x : Vec Ideal S1x20480 .f32) : View.ld x r0_2 = x :=
  View.ld_unit_zero (Val := Elt Ideal) (e := .f32) (S := S1x20480) z2' inb_S1x20480_S1x20480_0_0 x

theorem pay9 (x : Vec Ideal S3072x7168 .bf16) (w : Vec Ideal S7168x20480 .fp8e4m3) (s : Vec Ideal S1x20480 .f32) :
    k0_pay9 x w s = k0_pay4 (F := Ideal) x w := by unfold k0_pay9; rw [lx, lw]
theorem pay10 (x : Vec Ideal S3072x7168 .bf16) (w : Vec Ideal S7168x20480 .fp8e4m3) (s : Vec Ideal S1x20480 .f32) :
    k0_pay10 x w s = k0_pay5 (F := Ideal) s := by unfold k0_pay10; rw [ls]

theorem out3 (x : Vec Ideal S3072x7168 .bf16) (w : Vec Ideal S7168x20480 .fp8e4m3) (s : Vec Ideal S1x20480 .f32) :
    out0_3 x w s = resHS x w s := by
  unfold out0_3
  have h := View.canon_unit_zero (Val := Elt Ideal) (e := .f32) (S := S3072x1) z2' inb_S3072x1_S3072x1_0_0
    (k0_pay7 (F := Ideal) (k0_pay9 x w s) (k0_pay10 x w s))
  refine h.trans ?_
  rw [pay9, pay10]
  funext y
  rw [idx1 (M := 3072) y]
  exact p7 x w s (y 0)

theorem out4 (x : Vec Ideal S3072x7168 .bf16) (w : Vec Ideal S7168x20480 .fp8e4m3) (s : Vec Ideal S1x20480 .f32) :
    out0_4 x w s = resHC x w s := by
  unfold out0_4
  have h := View.canon_unit_zero (Val := Elt Ideal) (e := .fp8e4m3) (S := S3072x10240) z2' inb_S3072x10240_S3072x10240_0_0
    (k0_pay8 (F := Ideal) (k0_pay9 x w s) (k0_pay10 x w s))
  refine h.trans ?_
  rw [pay9, pay10]
  funext y
  rw [eq_ix2 y]
  exact p8 x w s (y 0) (y 1)

theorem out5 (x : Vec Ideal S3072x7168 .bf16) (w : Vec Ideal S7168x20480 .fp8e4m3) (s : Vec Ideal S1x20480 .f32) :
    out0_5 x w s = resXC x := by
  unfold out0_5
  have h := View.canon_unit_zero (Val := Elt Ideal) (e := .fp8e4m3) (S := S3072x7168) z2' inb_S3072x7168_S3072x7168_0_0
    (k0_pay3 (F := Ideal) (View.ld x r0_0))
  refine h.trans ?_
  rw [lx]
  funext y
  rw [eq_ix2 y]
  exact p3 x (y 0) (y 1)

theorem out6 (x : Vec Ideal S3072x7168 .bf16) (w : Vec Ideal S7168x20480 .fp8e4m3) (s : Vec Ideal S1x20480 .f32) :
    out0_6 x w s = resXS x := by
  unfold out0_6
  have h := View.canon_unit_zero (Val := Elt Ideal) (e := .f32) (S := S3072x1) z2' inb_S3072x1_S3072x1_0_0
    (k0_pay2 (F := Ideal) (View.ld x r0_0))
  refine h.trans ?_
  rw [lx]
  funext y
  rw [idx1 (M := 3072) y]
  exact p2 x (y 0)

/-! ## The one block of each window is its whole array -/

theorem e0_0 : ∀ t : Fin cfg0.N, win0_0.index t = ![0, 0] := (by decide +kernel : ∀ t : Fin grid0.N, win0_0.index t = ![0, 0])

theorem e0_1 : ∀ t : Fin cfg0.N, win0_1.index t = ![0, 0] := (by decide +kernel : ∀ t : Fin grid0.N, win0_1.index t = ![0, 0])

theorem e0_2 : ∀ t : Fin cfg0.N, win0_2.index t = ![0, 0] := (by decide +kernel : ∀ t : Fin grid0.N, win0_2.index t = ![0, 0])

theorem e0_3 : ∀ t : Fin cfg0.N, win0_3.index t = ![0, 0] := (by decide +kernel : ∀ t : Fin grid0.N, win0_3.index t = ![0, 0])

theorem e0_4 : ∀ t : Fin cfg0.N, win0_4.index t = ![0, 0] := (by decide +kernel : ∀ t : Fin grid0.N, win0_4.index t = ![0, 0])

theorem e0_5 : ∀ t : Fin cfg0.N, win0_5.index t = ![0, 0] := (by decide +kernel : ∀ t : Fin grid0.N, win0_5.index t = ![0, 0])

theorem e0_6 : ∀ t : Fin cfg0.N, win0_6.index t = ![0, 0] := (by decide +kernel : ∀ t : Fin grid0.N, win0_6.index t = ![0, 0])

theorem in0 (c : Dev nD) (t : Fin cfg0.N) : iblk m c 0 t = V m c main_v0 := by
  funext y
  unfold iblk
  refine congrArg (V m c main_v0) (funext fun a => Fin.ext ?_)
  match a with
  | ⟨0, _⟩ => blk_simp [e0_0]
  | ⟨1, _⟩ => blk_simp [e0_0]

theorem in1 (c : Dev nD) (t : Fin cfg0.N) : iblk m c 1 t = V m c main_arg1 := by
  funext y
  unfold iblk
  refine congrArg (V m c main_arg1) (funext fun a => Fin.ext ?_)
  match a with
  | ⟨0, _⟩ => blk_simp [e0_1]
  | ⟨1, _⟩ => blk_simp [e0_1]

theorem in2 (c : Dev nD) (t : Fin cfg0.N) : iblk m c 2 t = V m c main_v1 := by
  funext y
  unfold iblk
  refine congrArg (V m c main_v1) (funext fun a => Fin.ext ?_)
  match a with
  | ⟨0, _⟩ => blk_simp [e0_2]
  | ⟨1, _⟩ => blk_simp [e0_2]

theorem arr3 (c : Dev nD) : (dats m 0 c).arrAt 3 cfg0.N = resHS (V m c main_v0) (V m c main_arg1) (V m c main_v1) := by
  refine (dats m 0 c).arrAt_eq_of_covers 3 _ (by decide +kernel) fun t hf y => ?_
  blk_simp
  rw [after0_3]
  refine (congrFun (out3 (iblk m c 0 t) (iblk m c 1 t) (iblk m c 2 t)) y).trans ?_
  rw [in0, in1, in2]
  refine congrArg (resHS (V m c main_v0) (V m c main_arg1) (V m c main_v1)) (funext fun a => Fin.ext ?_)
  match a with
  | ⟨0, _⟩ => blk_simp [e0_3]
  | ⟨1, _⟩ => blk_simp [e0_3]

theorem arr4 (c : Dev nD) : (dats m 0 c).arrAt 4 cfg0.N = resHC (V m c main_v0) (V m c main_arg1) (V m c main_v1) := by
  refine (dats m 0 c).arrAt_eq_of_covers 4 _ (by decide +kernel) fun t hf y => ?_
  blk_simp
  rw [after0_4]
  refine (congrFun (out4 (iblk m c 0 t) (iblk m c 1 t) (iblk m c 2 t)) y).trans ?_
  rw [in0, in1, in2]
  refine congrArg (resHC (V m c main_v0) (V m c main_arg1) (V m c main_v1)) (funext fun a => Fin.ext ?_)
  match a with
  | ⟨0, _⟩ => blk_simp [e0_4]
  | ⟨1, _⟩ => blk_simp [e0_4]

theorem arr5 (c : Dev nD) : (dats m 0 c).arrAt 5 cfg0.N = resXC (V m c main_v0) := by
  refine (dats m 0 c).arrAt_eq_of_covers 5 _ (by decide +kernel) fun t hf y => ?_
  blk_simp
  rw [after0_5]
  refine (congrFun (out5 (iblk m c 0 t) (iblk m c 1 t) (iblk m c 2 t)) y).trans ?_
  rw [in0]
  refine congrArg (resXC (V m c main_v0)) (funext fun a => Fin.ext ?_)
  match a with
  | ⟨0, _⟩ => blk_simp [e0_5]
  | ⟨1, _⟩ => blk_simp [e0_5]

theorem arr6 (c : Dev nD) : (dats m 0 c).arrAt 6 cfg0.N = resXS (V m c main_v0) := by
  refine (dats m 0 c).arrAt_eq_of_covers 6 _ (by decide +kernel) fun t hf y => ?_
  blk_simp
  rw [after0_6]
  refine (congrFun (out6 (iblk m c 0 t) (iblk m c 1 t) (iblk m c 2 t)) y).trans ?_
  rw [in0]
  refine congrArg (resXS (V m c main_v0)) (funext fun a => Fin.ext ?_)
  match a with
  | ⟨0, _⟩ => blk_simp [e0_6]
  | ⟨1, _⟩ => blk_simp [e0_6]

/-! ## The arguments and the results -/

/-- The arguments, as the body reads them. -/
def xA (c : Dev nD) : FVec Ideal ⟨2, ![3072, 7168]⟩ .bf16 :=
  shapeCast S3072x7168 (m ((c : Thread nD τ).loc main_arg0) : S4x768x7168.Idx → Ideal .bf16) shapeCasts_S4x768x7168_S3072x7168

def wA (c : Dev nD) : FVec Ideal ⟨2, ![7168, 20480]⟩ .fp8e4m3 := m ((c : Thread nD τ).loc main_arg1)

def sA (c : Dev nD) : FVec Ideal ⟨2, ![1, 20480]⟩ .f32 :=
  shapeCast S1x20480 (m ((c : Thread nD τ).loc main_arg2) : S20480.Idx → Ideal .f32) shapeCasts_S20480_S1x20480

theorem V_v0 (c : Dev nD) : V m c main_v0 = xA m c := by
  show StableHlo.after hostOps0 (fun b => m (c, b)) (Proc.devRef .tc main_v0) = _
  after_results
  rfl

theorem V_v1 (c : Dev nD) : V m c main_v1 = sA m c := by
  show StableHlo.after hostOps0 (fun b => m (c, b)) (Proc.devRef .tc main_v1) = _
  after_results
  rfl

def hsA (c : Dev nD) : FVec Ideal S4x768x1 .f32 :=
  shapeCast S4x768x1 (resHS (xA m c) (wA m c) (sA m c)) shapeCasts_S3072x1_S4x768x1

def hcA (c : Dev nD) : FVec Ideal S4x768x10240 .fp8e4m3 :=
  shapeCast S4x768x10240 (resHC (xA m c) (wA m c) (sA m c)) shapeCasts_S3072x10240_S4x768x10240

def xcA (c : Dev nD) : FVec Ideal S4x768x7168 .fp8e4m3 :=
  shapeCast S4x768x7168 (resXC (xA m c)) shapeCasts_S3072x7168_S4x768x7168

def xsA (c : Dev nD) : FVec Ideal S4x768x1 .f32 :=
  shapeCast S4x768x1 (resXS (xA m c)) shapeCasts_S3072x1_S4x768x1

theorem wA_0 (c : Dev nD) : Pipeline.withArrays spec0 c (V0 m c) (fun w => (dats m 0 c).arrAt w cfg0.N) (Proc.devRef .tc main_v2_0)
    = resHS (xA m c) (wA m c) (sA m c) := by
  refine (Pipeline.withArrays_arr spec0 launch0.win.arr_inj c _ _ 3).trans ((arr3 m c).trans ?_)
  rw [V_v0, V_main_arg1, V_v1]; rfl

theorem tail_v3 (c : Dev nD) : Pipeline.afterTail₀ cfgs (dats m) 0 (V0 m) [hostOps1] c main_v3 = hsA m c := by
  show StableHlo.after hostOps1 (Pipeline.withArrays spec0 c (V0 m c) fun w => (dats m 0 c).arrAt w cfg0.N) (Proc.devRef .tc main_v3) = _
  after_results
  rw [wA_0]
  rfl

theorem wA_1 (c : Dev nD) : Pipeline.withArrays spec0 c (V0 m c) (fun w => (dats m 0 c).arrAt w cfg0.N) (Proc.devRef .tc main_v2_1)
    = resHC (xA m c) (wA m c) (sA m c) := by
  refine (Pipeline.withArrays_arr spec0 launch0.win.arr_inj c _ _ 4).trans ((arr4 m c).trans ?_)
  rw [V_v0, V_main_arg1, V_v1]; rfl

theorem tail_v4 (c : Dev nD) : Pipeline.afterTail₀ cfgs (dats m) 0 (V0 m) [hostOps1] c main_v4 = hcA m c := by
  show StableHlo.after hostOps1 (Pipeline.withArrays spec0 c (V0 m c) fun w => (dats m 0 c).arrAt w cfg0.N) (Proc.devRef .tc main_v4) = _
  after_results
  rw [wA_1]
  rfl

theorem wA_2 (c : Dev nD) : Pipeline.withArrays spec0 c (V0 m c) (fun w => (dats m 0 c).arrAt w cfg0.N) (Proc.devRef .tc main_v2_2)
    = resXC (xA m c) := by
  refine (Pipeline.withArrays_arr spec0 launch0.win.arr_inj c _ _ 5).trans ((arr5 m c).trans ?_)
  rw [V_v0]

theorem tail_v5 (c : Dev nD) : Pipeline.afterTail₀ cfgs (dats m) 0 (V0 m) [hostOps1] c main_v5 = xcA m c := by
  show StableHlo.after hostOps1 (Pipeline.withArrays spec0 c (V0 m c) fun w => (dats m 0 c).arrAt w cfg0.N) (Proc.devRef .tc main_v5) = _
  after_results
  rw [wA_2]
  rfl

theorem wA_3 (c : Dev nD) : Pipeline.withArrays spec0 c (V0 m c) (fun w => (dats m 0 c).arrAt w cfg0.N) (Proc.devRef .tc main_v2_3)
    = resXS (xA m c) := by
  refine (Pipeline.withArrays_arr spec0 launch0.win.arr_inj c _ _ 6).trans ((arr6 m c).trans ?_)
  rw [V_v0]

theorem tail_v6 (c : Dev nD) : Pipeline.afterTail₀ cfgs (dats m) 0 (V0 m) [hostOps1] c main_v6 = xsA m c := by
  show StableHlo.after hostOps1 (Pipeline.withArrays spec0 c (V0 m c) fun w => (dats m 0 c).arrAt w cfg0.N) (Proc.devRef .tc main_v6) = _
  after_results
  rw [wA_3]
  rfl

/-- The run: each result ends at its value, the arguments as launched. -/
theorem run : θ_run defs (onTc (τ := τ) (main (F := Ideal))) ⟨m, fun _ => 0, ρ⟩ (fun r => ∀ c : Dev nD,
      r.2.mem ((c.tc : Thread nD τ).loc main_v3) = hsA m c
      ∧ r.2.mem ((c.tc : Thread nD τ).loc main_v4) = hcA m c
      ∧ r.2.mem ((c.tc : Thread nD τ).loc main_v5) = xcA m c
      ∧ r.2.mem ((c.tc : Thread nD τ).loc main_v6) = xsA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      ((h c).2 main_v3 (Pipeline.mem_restRefs_of main_v3 (by decide) (by decide))).trans (tail_v3 m c),
      ((h c).2 main_v4 (Pipeline.mem_restRefs_of main_v4 (by decide) (by decide))).trans (tail_v4 m c),
      ((h c).2 main_v5 (Pipeline.mem_restRefs_of main_v5 (by decide) (by decide))).trans (tail_v5 m c),
      ((h c).2 main_v6 (Pipeline.mem_restRefs_of main_v6 (by decide) (by decide))).trans (tail_v6 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩) (run_main m ρ)

end Cert.ReferenceIdeal.Value
-- ==== Proof.Ideal.Algebraic.lean ====
/-
  The value claim: from agreeing arguments the kernel and the reference end with equal results, over the reals.
-/
module

public import proofs.«01_k».proof.Defs
public import proofs.«01_k».proof.Proof.Ideal.KerValue
public import proofs.«01_k».proof.Proof.Ideal.RefValue

@[expose] public section

set_option maxRecDepth 16384

noncomputable section

namespace Cert.Proof

open Idealize.ShloMosaic Idealize.SL.Sem Cert.Spec

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- Equal first arguments are read as equal matrices. -/
theorem x_eq (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Value.xA m' c = Cert.KernelIdeal.Value.xA m c := by
  unfold Cert.ReferenceIdeal.Value.xA Cert.KernelIdeal.Value.xA
  exact congrArg (fun v : Cert.KernelIdeal.S4x768x7168.Idx → Ideal .bf16 =>
    shapeCast Cert.KernelIdeal.S3072x7168 v _) h

theorem w_eq (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Value.wA m' c = Cert.KernelIdeal.Value.wA m c := h

theorem s_eq (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.sA m' c = Cert.KernelIdeal.Value.sA m c := by
  unfold Cert.ReferenceIdeal.Value.sA Cert.KernelIdeal.Value.sA
  exact congrArg (fun v : Cert.KernelIdeal.S20480.Idx → Ideal .f32 =>
    shapeCast Cert.KernelIdeal.S1x20480 v _) h

variable (hx : Cert.ReferenceIdeal.Value.xA m' c = Cert.KernelIdeal.Value.xA m c)
  (hw : Cert.ReferenceIdeal.Value.wA m' c = Cert.KernelIdeal.Value.wA m c)
  (hs : Cert.ReferenceIdeal.Value.sA m' c = Cert.KernelIdeal.Value.sA m c)
include hx

theorem xc_eq : Cert.ReferenceIdeal.Value.xcA m' c = Cert.KernelIdeal.Value.xcA m c := by
  unfold Cert.ReferenceIdeal.Value.xcA Cert.KernelIdeal.Value.xcA
  rw [hx]

theorem xs_eq : Cert.ReferenceIdeal.Value.xsA m' c = Cert.KernelIdeal.Value.xsA m c := by
  unfold Cert.ReferenceIdeal.Value.xsA Cert.KernelIdeal.Value.xsA
  rw [hx]

include hw hs

theorem hc_eq : Cert.ReferenceIdeal.Value.hcA m' c = Cert.KernelIdeal.Value.hcA m c := by
  unfold Cert.ReferenceIdeal.Value.hcA Cert.KernelIdeal.Value.hcA
  rw [hx, hw, hs]

theorem hs_eq : Cert.ReferenceIdeal.Value.hsA m' c = Cert.KernelIdeal.Value.hsA m c := by
  unfold Cert.ReferenceIdeal.Value.hsA Cert.KernelIdeal.Value.hsA
  rw [hx, hw, hs]

end

theorem algebraic : Cert.algebraic_KernelIdeal_ReferenceIdeal (hKernelIdeal := Cert.KernelIdeal.Gen.facts)
    (hReferenceIdeal := Cert.ReferenceIdeal.Gen.facts) := by
  intro m g m' g' _ hag
  refine ⟨fun c => Cert.KernelIdeal.Value.hsA m c, fun c => Cert.KernelIdeal.Value.hcA m c,
    fun c => Cert.KernelIdeal.Value.xcA m c, fun c => Cert.KernelIdeal.Value.xsA m c, Cert.KernelIdeal.Value.run m g, ?_⟩
  refine (θ_run _ _ _).mono (fun r h c => ?_) (Cert.ReferenceIdeal.Value.run m' g')
  obtain ⟨h0, h1, h2, h3, ha⟩ := h c
  have hx := x_eq m m' c (hag c).1
  have hw := w_eq m m' c (hag c).2.1
  have hs := s_eq m m' c (hag c).2.2
  exact ⟨h0.trans (hs_eq m m' c hx hw hs), h1.trans (hc_eq m m' c hx hw hs), h2.trans (xc_eq m m' c hx),
    h3.trans (xs_eq m m' c hx), ha⟩

end Cert.Proof
-- ==== Proof.lean ====
/-
  The certificate's proof: each program's run (Proof/Bits, Proof/Ideal and the generated reference run) read at the
  claims of Defs.lean.
-/
module

public import proofs.«01_k».proof.Defs
public import proofs.«01_k».proof.Proof.Bits.Run
public import proofs.«01_k».proof.Proof.Ideal.Run
public import proofs.«01_k».proof.Proof.Gen.ReferenceIdeal.Frame
public import proofs.«01_k».proof.Proof.Ideal.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Run.frame m ρ,
  fun m ρ _ => Cert.ReferenceIdeal.Gen.frame m ρ, trivial, algebraic⟩

end Cert.Proof

end
